-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S_ : Shape := ⟨0, ![]⟩
abbrev S16 : Shape := ⟨1, ![16]⟩
abbrev S1 : Shape := ⟨1, ![1]⟩
abbrev S32x256 : Shape := ⟨2, ![32, 256]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .local _ .vmem, ⟨0, _⟩ => ⟨S512x1024, .f32⟩
  | .local _ .vmem, ⟨1, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_13 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_12 : BitVec 32 := 512#32
  let v20 : BitVec 32 := Scalar.muli v2 c512_i32_12
  let v21 : BitVec 32 := Scalar.addi v20 c0_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_14 : BitVec 32 := 256#32
  let v22 : BitVec 32 := Scalar.muli v5 c256_i32_14
  ![v21.toNat, v22.toNat]
def k0_off2 (d0 : Dev nD) : Fin 2 → Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32 : BitVec 32 := 512#32
  let v17 : BitVec 32 := Scalar.muli v6 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v18 : BitVec 32 := Scalar.muli v5 c256_i32
  let v19 : BitVec 32 := Scalar.addi v17 v18
  ![0, v19.toNat]
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v23 : BitVec 32 := Scalar.muli v6 c2_i32_17
  let v24 : BitVec 32 := Scalar.addi c0_i32_18 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v25 : BitVec 32 := Scalar.muli v5 c1_i32_19
  let v26 : BitVec 32 := Scalar.addi v24 v25
  v26.toNat
def k0_off3 (d0 : Dev nD) : Fin 2 → Nat :=
  let c32_i32_30 : BitVec 32 := 32#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_21 : BitVec 32 := 512#32
  let v33 : BitVec 32 := Scalar.muli v6 c512_i32_21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_22 : BitVec 32 := 256#32
  let v34 : BitVec 32 := Scalar.muli v5 c256_i32_22
  let v35 : BitVec 32 := Scalar.addi v33 v34
  ![32, v35.toNat]
def k0_dev4 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v39 : BitVec 32 := Scalar.muli v6 c2_i32_27
  let v40 : BitVec 32 := Scalar.addi c0_i32_28 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v41 : BitVec 32 := Scalar.muli v5 c1_i32_29
  let v42 : BitVec 32 := Scalar.addi v40 v41
  v42.toNat
def k0_off4 (d0 : Dev nD) : Fin 2 → Nat :=
  let c64_i32_40 : BitVec 32 := 64#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_31 : BitVec 32 := 512#32
  let v49 : BitVec 32 := Scalar.muli v6 c512_i32_31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_32 : BitVec 32 := 256#32
  let v50 : BitVec 32 := Scalar.muli v5 c256_i32_32
  let v51 : BitVec 32 := Scalar.addi v49 v50
  ![64, v51.toNat]
def k0_dev5 (d0 : Dev nD) : Nat :=
  let c0_i32_38 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_37 : BitVec 32 := 2#32
  let v55 : BitVec 32 := Scalar.muli v6 c2_i32_37
  let v56 : BitVec 32 := Scalar.addi c0_i32_38 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v57 : BitVec 32 := Scalar.muli v5 c1_i32_39
  let v58 : BitVec 32 := Scalar.addi v56 v57
  v58.toNat
def k0_off5 (d0 : Dev nD) : Fin 2 → Nat :=
  let c96_i32_49 : BitVec 32 := 96#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_41 : BitVec 32 := 512#32
  let v65 : BitVec 32 := Scalar.muli v6 c512_i32_41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_42 : BitVec 32 := 256#32
  let v66 : BitVec 32 := Scalar.muli v5 c256_i32_42
  let v67 : BitVec 32 := Scalar.addi v65 v66
  ![96, v67.toNat]
def k0_dev6 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v71 : BitVec 32 := Scalar.muli v6 c2_i32_46
  let v72 : BitVec 32 := Scalar.addi c0_i32_47 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v73 : BitVec 32 := Scalar.muli v5 c1_i32_48
  let v74 : BitVec 32 := Scalar.addi v72 v73
  v74.toNat
def k0_off6 (d0 : Dev nD) : Fin 2 → Nat :=
  let c128_i32_58 : BitVec 32 := 128#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_50 : BitVec 32 := 512#32
  let v81 : BitVec 32 := Scalar.muli v6 c512_i32_50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_51 : BitVec 32 := 256#32
  let v82 : BitVec 32 := Scalar.muli v5 c256_i32_51
  let v83 : BitVec 32 := Scalar.addi v81 v82
  ![128, v83.toNat]
def k0_dev7 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v87 : BitVec 32 := Scalar.muli v6 c2_i32_55
  let v88 : BitVec 32 := Scalar.addi c0_i32_56 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v89 : BitVec 32 := Scalar.muli v5 c1_i32_57
  let v90 : BitVec 32 := Scalar.addi v88 v89
  v90.toNat
def k0_off7 (d0 : Dev nD) : Fin 2 → Nat :=
  let c160_i32_67 : BitVec 32 := 160#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_59 : BitVec 32 := 512#32
  let v97 : BitVec 32 := Scalar.muli v6 c512_i32_59
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_60 : BitVec 32 := 256#32
  let v98 : BitVec 32 := Scalar.muli v5 c256_i32_60
  let v99 : BitVec 32 := Scalar.addi v97 v98
  ![160, v99.toNat]
def k0_dev8 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v103 : BitVec 32 := Scalar.muli v6 c2_i32_64
  let v104 : BitVec 32 := Scalar.addi c0_i32_65 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v105 : BitVec 32 := Scalar.muli v5 c1_i32_66
  let v106 : BitVec 32 := Scalar.addi v104 v105
  v106.toNat
def k0_off8 (d0 : Dev nD) : Fin 2 → Nat :=
  let c192_i32_76 : BitVec 32 := 192#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_68 : BitVec 32 := 512#32
  let v113 : BitVec 32 := Scalar.muli v6 c512_i32_68
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_69 : BitVec 32 := 256#32
  let v114 : BitVec 32 := Scalar.muli v5 c256_i32_69
  let v115 : BitVec 32 := Scalar.addi v113 v114
  ![192, v115.toNat]
def k0_dev9 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v119 : BitVec 32 := Scalar.muli v6 c2_i32_73
  let v120 : BitVec 32 := Scalar.addi c0_i32_74 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v121 : BitVec 32 := Scalar.muli v5 c1_i32_75
  let v122 : BitVec 32 := Scalar.addi v120 v121
  v122.toNat
def k0_off9 (d0 : Dev nD) : Fin 2 → Nat :=
  let c224_i32_85 : BitVec 32 := 224#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_77 : BitVec 32 := 512#32
  let v129 : BitVec 32 := Scalar.muli v6 c512_i32_77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_78 : BitVec 32 := 256#32
  let v130 : BitVec 32 := Scalar.muli v5 c256_i32_78
  let v131 : BitVec 32 := Scalar.addi v129 v130
  ![224, v131.toNat]
def k0_dev10 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v135 : BitVec 32 := Scalar.muli v6 c2_i32_82
  let v136 : BitVec 32 := Scalar.addi c0_i32_83 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v137 : BitVec 32 := Scalar.muli v5 c1_i32_84
  let v138 : BitVec 32 := Scalar.addi v136 v137
  v138.toNat
def k0_off10 (d0 : Dev nD) : Fin 2 → Nat :=
  let c256_i32_95 : BitVec 32 := 256#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_86 : BitVec 32 := 512#32
  let v145 : BitVec 32 := Scalar.muli v6 c512_i32_86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_87 : BitVec 32 := 256#32
  let v146 : BitVec 32 := Scalar.muli v5 c256_i32_87
  let v147 : BitVec 32 := Scalar.addi v145 v146
  ![256, v147.toNat]
def k0_dev11 (d0 : Dev nD) : Nat :=
  let c0_i32_93 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_92 : BitVec 32 := 2#32
  let v151 : BitVec 32 := Scalar.muli v6 c2_i32_92
  let v152 : BitVec 32 := Scalar.addi c0_i32_93 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v153 : BitVec 32 := Scalar.muli v5 c1_i32_94
  let v154 : BitVec 32 := Scalar.addi v152 v153
  v154.toNat
def k0_off11 (d0 : Dev nD) : Fin 2 → Nat :=
  let c288_i32_104 : BitVec 32 := 288#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_96 : BitVec 32 := 512#32
  let v161 : BitVec 32 := Scalar.muli v6 c512_i32_96
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_97 : BitVec 32 := 256#32
  let v162 : BitVec 32 := Scalar.muli v5 c256_i32_97
  let v163 : BitVec 32 := Scalar.addi v161 v162
  ![288, v163.toNat]
def k0_dev12 (d0 : Dev nD) : Nat :=
  let c0_i32_102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_101 : BitVec 32 := 2#32
  let v167 : BitVec 32 := Scalar.muli v6 c2_i32_101
  let v168 : BitVec 32 := Scalar.addi c0_i32_102 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v169 : BitVec 32 := Scalar.muli v5 c1_i32_103
  let v170 : BitVec 32 := Scalar.addi v168 v169
  v170.toNat
def k0_off12 (d0 : Dev nD) : Fin 2 → Nat :=
  let c320_i32_113 : BitVec 32 := 320#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_105 : BitVec 32 := 512#32
  let v177 : BitVec 32 := Scalar.muli v6 c512_i32_105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_106 : BitVec 32 := 256#32
  let v178 : BitVec 32 := Scalar.muli v5 c256_i32_106
  let v179 : BitVec 32 := Scalar.addi v177 v178
  ![320, v179.toNat]
def k0_dev13 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v183 : BitVec 32 := Scalar.muli v6 c2_i32_110
  let v184 : BitVec 32 := Scalar.addi c0_i32_111 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v185 : BitVec 32 := Scalar.muli v5 c1_i32_112
  let v186 : BitVec 32 := Scalar.addi v184 v185
  v186.toNat
def k0_off13 (d0 : Dev nD) : Fin 2 → Nat :=
  let c352_i32_122 : BitVec 32 := 352#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_114 : BitVec 32 := 512#32
  let v193 : BitVec 32 := Scalar.muli v6 c512_i32_114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_115 : BitVec 32 := 256#32
  let v194 : BitVec 32 := Scalar.muli v5 c256_i32_115
  let v195 : BitVec 32 := Scalar.addi v193 v194
  ![352, v195.toNat]
def k0_dev14 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v199 : BitVec 32 := Scalar.muli v6 c2_i32_119
  let v200 : BitVec 32 := Scalar.addi c0_i32_120 v199
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v201 : BitVec 32 := Scalar.muli v5 c1_i32_121
  let v202 : BitVec 32 := Scalar.addi v200 v201
  v202.toNat
def k0_off14 (d0 : Dev nD) : Fin 2 → Nat :=
  let c384_i32_131 : BitVec 32 := 384#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_123 : BitVec 32 := 512#32
  let v209 : BitVec 32 := Scalar.muli v6 c512_i32_123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_124 : BitVec 32 := 256#32
  let v210 : BitVec 32 := Scalar.muli v5 c256_i32_124
  let v211 : BitVec 32 := Scalar.addi v209 v210
  ![384, v211.toNat]
def k0_dev15 (d0 : Dev nD) : Nat :=
  let c0_i32_129 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_128 : BitVec 32 := 2#32
  let v215 : BitVec 32 := Scalar.muli v6 c2_i32_128
  let v216 : BitVec 32 := Scalar.addi c0_i32_129 v215
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_130 : BitVec 32 := 1#32
  let v217 : BitVec 32 := Scalar.muli v5 c1_i32_130
  let v218 : BitVec 32 := Scalar.addi v216 v217
  v218.toNat
def k0_off15 (d0 : Dev nD) : Fin 2 → Nat :=
  let c416_i32_140 : BitVec 32 := 416#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_132 : BitVec 32 := 512#32
  let v225 : BitVec 32 := Scalar.muli v6 c512_i32_132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_133 : BitVec 32 := 256#32
  let v226 : BitVec 32 := Scalar.muli v5 c256_i32_133
  let v227 : BitVec 32 := Scalar.addi v225 v226
  ![416, v227.toNat]
def k0_dev16 (d0 : Dev nD) : Nat :=
  let c0_i32_138 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_137 : BitVec 32 := 2#32
  let v231 : BitVec 32 := Scalar.muli v6 c2_i32_137
  let v232 : BitVec 32 := Scalar.addi c0_i32_138 v231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v233 : BitVec 32 := Scalar.muli v5 c1_i32_139
  let v234 : BitVec 32 := Scalar.addi v232 v233
  v234.toNat
def k0_off16 (d0 : Dev nD) : Fin 2 → Nat :=
  let c448_i32_149 : BitVec 32 := 448#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_141 : BitVec 32 := 512#32
  let v241 : BitVec 32 := Scalar.muli v6 c512_i32_141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_142 : BitVec 32 := 256#32
  let v242 : BitVec 32 := Scalar.muli v5 c256_i32_142
  let v243 : BitVec 32 := Scalar.addi v241 v242
  ![448, v243.toNat]
def k0_dev17 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v247 : BitVec 32 := Scalar.muli v6 c2_i32_146
  let v248 : BitVec 32 := Scalar.addi c0_i32_147 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v249 : BitVec 32 := Scalar.muli v5 c1_i32_148
  let v250 : BitVec 32 := Scalar.addi v248 v249
  v250.toNat
def k0_off17 (d0 : Dev nD) : Fin 2 → Nat :=
  let c480_i32_158 : BitVec 32 := 480#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_150 : BitVec 32 := 512#32
  let v257 : BitVec 32 := Scalar.muli v6 c512_i32_150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_151 : BitVec 32 := 256#32
  let v258 : BitVec 32 := Scalar.muli v5 c256_i32_151
  let v259 : BitVec 32 := Scalar.addi v257 v258
  ![480, v259.toNat]
def k0_dev18 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v263 : BitVec 32 := Scalar.muli v6 c2_i32_155
  let v264 : BitVec 32 := Scalar.addi c0_i32_156 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v265 : BitVec 32 := Scalar.muli v5 c1_i32_157
  let v266 : BitVec 32 := Scalar.addi v264 v265
  v266.toNat
def k0_off18 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_160 : BitVec 32 := 512#32
  let v274 : BitVec 32 := Scalar.muli v2 c512_i32_160
  let c0_i32_161 : BitVec 32 := 0#32
  ![v274.toNat, 0]
def k0_off19 (d0 : Dev nD) : Fin 2 → Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_159 : BitVec 32 := 512#32
  let v273 : BitVec 32 := Scalar.muli v2 c512_i32_159
  ![0, v273.toNat]
def k0_off20 (d0 : Dev nD) (c0_i32_173 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_172 : BitVec 32 := 512#32
  let v288 : BitVec 32 := Scalar.muli v6 c512_i32_172
  let v289 : BitVec 32 := Scalar.addi v288 c0_i32_173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_174 : BitVec 32 := 256#32
  let v290 : BitVec 32 := Scalar.muli v5 c256_i32_174
  ![v289.toNat, v290.toNat]
def k0_dev19 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v291 : BitVec 32 := Scalar.muli v2 c2_i32_177
  let v292 : BitVec 32 := Scalar.addi c0_i32_178 v291
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_179 : BitVec 32 := 1#32
  let v293 : BitVec 32 := Scalar.muli v7 c1_i32_179
  let v294 : BitVec 32 := Scalar.addi v292 v293
  v294.toNat
def k0_dev20 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v315 : BitVec 32 := Scalar.muli v2 c2_i32_194
  let v316 : BitVec 32 := Scalar.addi c0_i32_195 v315
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_196 : BitVec 32 := 1#32
  let v317 : BitVec 32 := Scalar.muli v7 c1_i32_196
  let v318 : BitVec 32 := Scalar.addi v316 v317
  v318.toNat
def k0_dev21 (d0 : Dev nD) : Nat :=
  let c0_i32_212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_211 : BitVec 32 := 2#32
  let v339 : BitVec 32 := Scalar.muli v2 c2_i32_211
  let v340 : BitVec 32 := Scalar.addi c0_i32_212 v339
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_213 : BitVec 32 := 1#32
  let v341 : BitVec 32 := Scalar.muli v7 c1_i32_213
  let v342 : BitVec 32 := Scalar.addi v340 v341
  v342.toNat
def k0_dev22 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v363 : BitVec 32 := Scalar.muli v2 c2_i32_228
  let v364 : BitVec 32 := Scalar.addi c0_i32_229 v363
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_230 : BitVec 32 := 1#32
  let v365 : BitVec 32 := Scalar.muli v7 c1_i32_230
  let v366 : BitVec 32 := Scalar.addi v364 v365
  v366.toNat
def k0_dev23 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v387 : BitVec 32 := Scalar.muli v2 c2_i32_245
  let v388 : BitVec 32 := Scalar.addi c0_i32_246 v387
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_247 : BitVec 32 := 1#32
  let v389 : BitVec 32 := Scalar.muli v7 c1_i32_247
  let v390 : BitVec 32 := Scalar.addi v388 v389
  v390.toNat
def k0_dev24 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v411 : BitVec 32 := Scalar.muli v2 c2_i32_262
  let v412 : BitVec 32 := Scalar.addi c0_i32_263 v411
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_264 : BitVec 32 := 1#32
  let v413 : BitVec 32 := Scalar.muli v7 c1_i32_264
  let v414 : BitVec 32 := Scalar.addi v412 v413
  v414.toNat
def k0_dev25 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v435 : BitVec 32 := Scalar.muli v2 c2_i32_279
  let v436 : BitVec 32 := Scalar.addi c0_i32_280 v435
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_281 : BitVec 32 := 1#32
  let v437 : BitVec 32 := Scalar.muli v7 c1_i32_281
  let v438 : BitVec 32 := Scalar.addi v436 v437
  v438.toNat
def k0_dev26 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v459 : BitVec 32 := Scalar.muli v2 c2_i32_296
  let v460 : BitVec 32 := Scalar.addi c0_i32_297 v459
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_298 : BitVec 32 := 1#32
  let v461 : BitVec 32 := Scalar.muli v7 c1_i32_298
  let v462 : BitVec 32 := Scalar.addi v460 v461
  v462.toNat
def k0_dev27 (d0 : Dev nD) : Nat :=
  let c0_i32_314 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_313 : BitVec 32 := 2#32
  let v483 : BitVec 32 := Scalar.muli v2 c2_i32_313
  let v484 : BitVec 32 := Scalar.addi c0_i32_314 v483
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_315 : BitVec 32 := 1#32
  let v485 : BitVec 32 := Scalar.muli v7 c1_i32_315
  let v486 : BitVec 32 := Scalar.addi v484 v485
  v486.toNat
def k0_dev28 (d0 : Dev nD) : Nat :=
  let c0_i32_331 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_330 : BitVec 32 := 2#32
  let v507 : BitVec 32 := Scalar.muli v2 c2_i32_330
  let v508 : BitVec 32 := Scalar.addi c0_i32_331 v507
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_332 : BitVec 32 := 1#32
  let v509 : BitVec 32 := Scalar.muli v7 c1_i32_332
  let v510 : BitVec 32 := Scalar.addi v508 v509
  v510.toNat
def k0_dev29 (d0 : Dev nD) : Nat :=
  let c0_i32_348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_347 : BitVec 32 := 2#32
  let v531 : BitVec 32 := Scalar.muli v2 c2_i32_347
  let v532 : BitVec 32 := Scalar.addi c0_i32_348 v531
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_349 : BitVec 32 := 1#32
  let v533 : BitVec 32 := Scalar.muli v7 c1_i32_349
  let v534 : BitVec 32 := Scalar.addi v532 v533
  v534.toNat
def k0_dev30 (d0 : Dev nD) : Nat :=
  let c0_i32_365 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_364 : BitVec 32 := 2#32
  let v555 : BitVec 32 := Scalar.muli v2 c2_i32_364
  let v556 : BitVec 32 := Scalar.addi c0_i32_365 v555
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_366 : BitVec 32 := 1#32
  let v557 : BitVec 32 := Scalar.muli v7 c1_i32_366
  let v558 : BitVec 32 := Scalar.addi v556 v557
  v558.toNat
def k0_dev31 (d0 : Dev nD) : Nat :=
  let c0_i32_382 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_381 : BitVec 32 := 2#32
  let v579 : BitVec 32 := Scalar.muli v2 c2_i32_381
  let v580 : BitVec 32 := Scalar.addi c0_i32_382 v579
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_383 : BitVec 32 := 1#32
  let v581 : BitVec 32 := Scalar.muli v7 c1_i32_383
  let v582 : BitVec 32 := Scalar.addi v580 v581
  v582.toNat
def k0_dev32 (d0 : Dev nD) : Nat :=
  let c0_i32_399 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_398 : BitVec 32 := 2#32
  let v603 : BitVec 32 := Scalar.muli v2 c2_i32_398
  let v604 : BitVec 32 := Scalar.addi c0_i32_399 v603
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_400 : BitVec 32 := 1#32
  let v605 : BitVec 32 := Scalar.muli v7 c1_i32_400
  let v606 : BitVec 32 := Scalar.addi v604 v605
  v606.toNat
def k0_dev33 (d0 : Dev nD) : Nat :=
  let c0_i32_416 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_415 : BitVec 32 := 2#32
  let v627 : BitVec 32 := Scalar.muli v2 c2_i32_415
  let v628 : BitVec 32 := Scalar.addi c0_i32_416 v627
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_417 : BitVec 32 := 1#32
  let v629 : BitVec 32 := Scalar.muli v7 c1_i32_417
  let v630 : BitVec 32 := Scalar.addi v628 v629
  v630.toNat
def k0_dev34 (d0 : Dev nD) : Nat :=
  let c0_i32_433 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_432 : BitVec 32 := 2#32
  let v651 : BitVec 32 := Scalar.muli v2 c2_i32_432
  let v652 : BitVec 32 := Scalar.addi c0_i32_433 v651
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_434 : BitVec 32 := 1#32
  let v653 : BitVec 32 := Scalar.muli v7 c1_i32_434
  let v654 : BitVec 32 := Scalar.addi v652 v653
  v654.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Route.lean ====
/- The kernel's body on one device, written as five short loops over the sixteen chunks.

   The printed body is unrolled: 2 signals, a wait, 16 sends over the x link, a local copy, 16 times a wait and a
   send over the y link, 16 waits, 16 times two waits, and a wait. Here it is stated once per loop, over the
   chunk's number, and proved equal to what is printed. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ghost state's algebra: the pipeline's own cells, and the transfers' cells with duties named by `Bool` -/

abbrev UB : Type := URounds (GSem nD τ sig) Bool
abbrev UU : Type := UR sig nD τ × UB

local notation "𝕄" => MT nD τ sig Unit (Elt F) ℕ UU ℕ

/-! ## The mesh -/

/-- The device's coordinate along x: which half of the array's rows it holds. -/
def row (c : Dev nD) : Fin 2 := ⟨c.val / 2, by have := c.isLt; have h : nD = 4 := rfl; omega⟩
/-- The device's coordinate along y. -/
def lane (c : Dev nD) : Fin 2 := ⟨c.val % 2, by omega⟩
/-- The device at given coordinates. -/
def at_ (a b : Fin 2) : Dev nD := ⟨2 * a.val + b.val, by have h : nD = 4 := rfl; omega⟩
/-- The other one of two. -/
def other (a : Fin 2) : Fin 2 := ⟨1 - a.val, by omega⟩

/-- The neighbour over the x link. -/
def overX (c : Dev nD) : Dev nD := at_ (other (row c)) (lane c)
/-- The neighbour over the y link. -/
def overY (c : Dev nD) : Dev nD := at_ (row c) (other (lane c))

theorem overX_overX (c : Dev nD) : overX (overX c) = c := by revert c; decide
theorem overY_overY (c : Dev nD) : overY (overY c) = c := by revert c; decide
theorem overX_ne_overY (c : Dev nD) : overX c ≠ overY c := by revert c; decide
theorem row_overX (c : Dev nD) : row (overX c) = other (row c) := by revert c; decide
theorem row_overY (c : Dev nD) : row (overY c) = row c := by revert c; decide
theorem lane_overX (c : Dev nD) : lane (overX c) = lane c := by revert c; decide
theorem lane_overY (c : Dev nD) : lane (overY c) = other (lane c) := by revert c; decide
theorem other_other (a : Fin 2) : other (other a) = a := by revert a; decide

/-! ## The blocks a transfer reads and writes -/

/-- The staged argument and the staged result, whole. -/
abbrev inM : Memref sig .tc .vmem S512x1024 .f32 := Memref.whole cc0_stg0_0
abbrev outM : Memref sig .tc .vmem S1024x512 .f32 := Memref.whole cc0_stg1_0

theorem inTile_inb (h b : Fin 2) (r : Fin 16) : ∀ a, (![32 * r.val, 512 * h.val + 256 * b.val] : Fin 2 → Nat) a + S32x256.size a ≤ S512x1024.size a := by
  revert h b r; decide +kernel
theorem outTile_inb (h b : Fin 2) (r : Fin 16) : ∀ a, (![512 * h.val + 32 * r.val, 256 * b.val] : Fin 2 → Nat) a + S32x256.size a ≤ S1024x512.size a := by
  revert h b r; decide +kernel
theorem inHalf_inb (h : Fin 2) : ∀ a, (![0, 512 * h.val] : Fin 2 → Nat) a + S512x512.size a ≤ S512x1024.size a := by
  revert h; decide +kernel
theorem outHalf_inb (h : Fin 2) : ∀ a, (![512 * h.val, 0] : Fin 2 → Nat) a + S512x512.size a ≤ S1024x512.size a := by
  revert h; decide +kernel

/-- Chunk `r` (32 rows) of the argument's columns in quarter `(h, b)`: half `h`, and in it half `b`. -/
def inTile (h b : Fin 2) (r : Fin 16) : Memref sig .tc .vmem S32x256 .f32 :=
  inM.slice (Rect.unit (s := S512x1024) ![32 * r.val, 512 * h.val + 256 * b.val] S32x256.size (inTile_inb h b r)) (fun _ => rfl)
/-- Chunk `r` of the result's rows of half `h`, in the columns of half `b`. -/
def outTile (h b : Fin 2) (r : Fin 16) : Memref sig .tc .vmem S32x256 .f32 :=
  outM.slice (Rect.unit (s := S1024x512) ![512 * h.val + 32 * r.val, 256 * b.val] S32x256.size (outTile_inb h b r)) (fun _ => rfl)
/-- The argument's columns of half `h`, and the result's rows of half `h`. -/
def inHalf (h : Fin 2) : Memref sig .tc .vmem S512x512 .f32 :=
  inM.slice (Rect.unit (s := S512x1024) ![0, 512 * h.val] S512x512.size (inHalf_inb h)) (fun _ => rfl)
def outHalf (h : Fin 2) : Memref sig .tc .vmem S512x512 .f32 :=
  outM.slice (Rect.unit (s := S1024x512) ![512 * h.val, 0] S512x512.size (outHalf_inb h)) (fun _ => rfl)

/-! ## The semaphores -/

/-- The barrier semaphore. -/
abbrev barS : Sem sig := (SemArray.scalar (sig.barrier 0 rfl) : Sems sig S_).sem

theorem sem_inb (r : Fin 16) : ∀ a, (![r.val] : Fin 1 → Nat) a + S1.size a ≤ S16.size a := by revert r; decide +kernel
/-- Semaphore `r` of an array of sixteen. -/
def pick (a : DmaSems sig S16) (r : Fin 16) : DmaSem sig :=
  ((a.slice (Rect.unit (s := S16) ![r.val] S1.size (sem_inb r))).squeeze S_ squeezes_S1_S_).sem

/-- The four arrays: 0 and 1 the x link's send and receive ends, 2 and 3 the y link's. -/
def arr (j : Fin 4) : DmaSems sig S16 := ![cc0_scratch1, cc0_scratch2, cc0_scratch3, cc0_scratch4] j
def dsem (j : Fin 4) (r : Fin 16) : DmaSem sig := pick (arr j) r
abbrev locS : DmaSem sig := cc0_scratch0.sem

/-- Their numbers. -/
theorem dsem_val (j : Fin 4) (r : Fin 16) : (dsem j r).val = 3 + 16 * j.val + r.val := by revert j r; decide +kernel
theorem locS_val : (locS : DmaSem sig).val = 2 := by decide +kernel

/-! ## The body as loops -/

abbrev P (F : FTy → Type) : Type 1 := Prog (TpuEff nD τ sig (Elt F) Λ₀ .tc) PUnit

/-- The chunks in the order they are taken. -/
def chunks : List (Fin 16) := [0, 1, 2, 3, 4, 5, 6, 7, 8, 9, 10, 11, 12, 13, 14, 15]

/-- `step` for each of `l`, then `k`. -/
def each (step : Fin 16 → P F → P F) (l : List (Fin 16)) (k : P F) : P F := l.foldr step k

/-- Send chunk `r` of the quarter the x neighbour's column half and this lane name over the x link. -/
def sendX (c : Dev nD) (r : Fin 16) (k : P F) : P F :=
  .op (.enqueueDma (inTile (other (row c)) (lane c) r) (.remote (Dev.tc (overX c)) (outTile (row c) (lane c) r) (.dma (dsem 0 r))) (.dma (dsem 1 r))
    (View.wordExact_bits rfl) (View.wordExact_bits rfl) ⟨⟨rfl, Or.inl rfl⟩, trivial⟩) fun _ => k

/-- Copy the half that stays. -/
def keep (c : Dev nD) (k : P F) : P F :=
  .op (.enqueueDma (inHalf (row c)) (.here (outHalf (row c))) (.dma locS) (View.wordExact_bits rfl) (View.wordExact_bits rfl) ⟨Or.inl rfl, trivial⟩) fun _ => k

/-- Wait for chunk `r` over the x link and pass it on over the y link. -/
def relay (c : Dev nD) (r : Fin 16) (k : P F) : P F :=
  .op (.waitDma2 (dsem 1 r) (inTile (other (row c)) (lane c) r) (outTile (row c) (lane c) r) (View.wordExact_bits rfl) (View.wordExact_bits rfl)) fun _ =>
  .op (.enqueueDma (outTile (other (row c)) (lane c) r) (.remote (Dev.tc (overY c)) (outTile (other (row c)) (lane c) r) (.dma (dsem 2 r))) (.dma (dsem 3 r))
    (View.wordExact_bits rfl) (View.wordExact_bits rfl) ⟨⟨rfl, Or.inl rfl⟩, trivial⟩) fun _ => k

/-- Wait for chunk `r` over the y link. -/
def takeY (c : Dev nD) (r : Fin 16) (k : P F) : P F :=
  .op (.waitDma2 (dsem 3 r) (outTile (other (row c)) (lane c) r) (outTile (other (row c)) (lane c) r) (View.wordExact_bits rfl) (View.wordExact_bits rfl)) fun _ => k

/-- Wait for chunk `r`'s two send ends. -/
def drain (c : Dev nD) (r : Fin 16) (k : P F) : P F :=
  .op (.waitDma2 (dsem 0 r) (outTile (row c) (lane c) r) (inTile (other (row c)) (lane c) r) (View.wordExact_bits rfl) (View.wordExact_bits rfl)) fun _ =>
  .op (.waitDma2 (dsem 2 r) (outTile (other (row c)) (lane c) r) (outTile (other (row c)) (lane c) r) (View.wordExact_bits rfl) (View.wordExact_bits rfl)) fun _ => k

/-- Wait for the half that stays. -/
def settle (c : Dev nD) : P F :=
  .op (.waitDma2 locS (inHalf (row c)) (outHalf (row c)) (View.wordExact_bits rfl) (View.wordExact_bits rfl)) fun _ => .ret ⟨⟩

/-- The body after the handshake. -/
def moves (c : Dev nD) : P F :=
  each (sendX c) chunks (keep c (each (relay c) chunks (each (takeY c) chunks (each (drain c) chunks (settle c)))))

/-- The whole body. -/
def route (c : Dev nD) : P F :=
  .op (.semSignal (Dev.tc (overX c)) barS 1) fun _ => .op (.semSignal (Dev.tc (overY c)) barS 1) fun _ => .op (.semWait barS 2) fun _ => moves c

/-! ## The printed body is it -/

theorem farCol (c : Dev nD) : (256 * (c.val % 2) + 512) - 512 * (c.val / 2) = 512 * (other (row c)).val + 256 * (lane c).val := by
  revert c; decide
theorem farRow (c : Dev nD) (n : Nat) : (n + 512) - 512 * (c.val / 2) = 512 * (other (row c)).val + n := by
  have h : c.val / 2 ≤ 1 := by have := c.isLt; have h : nD = 4 := rfl; omega
  show (n + 512) - 512 * (c.val / 2) = 512 * (1 - c.val / 2) + n
  omega
theorem devX (c : Dev nD) (n : Nat) (h : n = (c.val % 2 + 2) - 2 * (c.val / 2)) (hn : n < nD) : (⟨n, hn⟩ : Dev nD) = overX c := by
  subst h; revert c; decide
theorem devY (c : Dev nD) (n : Nat) (h : n = (2 * (c.val / 2) + 1) - c.val % 2) (hn : n < nD) : (⟨n, hn⟩ : Dev nD) = overY c := by
  subst h; revert c; decide

abbrev 𝒱₀ : Variants := Variants.none

/-- A slice at an offset whose closed form is the tile's is the tile. -/
theorem inTile_of {c : Dev nD} {r : Fin 16} {off : Fin 2 → Nat} [h : ClosedOff off] {hi : ∀ a, off a + S32x256.size a ≤ S512x1024.size a}
    (e : h.form = ![32 * r.val, (256 * (c.val % 2) + 512) - 512 * (c.val / 2)]) :
    inM.slice (Rect.unit (s := S512x1024) off S32x256.size hi) (fun _ => rfl) = inTile (other (row c)) (lane c) r := by
  have e' := h.eq.trans e; rw [farCol] at e'; subst e'; rfl
theorem nearTile_of {c : Dev nD} {r : Fin 16} {off : Fin 2 → Nat} [h : ClosedOff off] {hi : ∀ a, off a + S32x256.size a ≤ S1024x512.size a}
    (e : h.form = ![512 * (c.val / 2) + 32 * r.val, 256 * (c.val % 2)]) :
    outM.slice (Rect.unit (s := S1024x512) off S32x256.size hi) (fun _ => rfl) = outTile (row c) (lane c) r := by
  have e' := h.eq.trans e; subst e'; rfl
theorem farTile_of {c : Dev nD} {r : Fin 16} {off : Fin 2 → Nat} [h : ClosedOff off] {hi : ∀ a, off a + S32x256.size a ≤ S1024x512.size a}
    (e : h.form = ![(32 * r.val + 512) - 512 * (c.val / 2), 256 * (c.val % 2)]) :
    outM.slice (Rect.unit (s := S1024x512) off S32x256.size hi) (fun _ => rfl) = outTile (other (row c)) (lane c) r := by
  have e' := h.eq.trans e; rw [farRow] at e'; subst e'; rfl
theorem inHalf_of {c : Dev nD} {off : Fin 2 → Nat} [h : ClosedOff off] {hi : ∀ a, off a + S512x512.size a ≤ S512x1024.size a}
    (e : h.form = ![0, 512 * (c.val / 2)]) :
    inM.slice (Rect.unit (s := S512x1024) off S512x512.size hi) (fun _ => rfl) = inHalf (row c) := by
  have e' := h.eq.trans e; subst e'; rfl
theorem outHalf_of {c : Dev nD} {off : Fin 2 → Nat} [h : ClosedOff off] {hi : ∀ a, off a + S512x512.size a ≤ S1024x512.size a}
    (e : h.form = ![512 * (c.val / 2), 0]) :
    outM.slice (Rect.unit (s := S1024x512) off S512x512.size hi) (fun _ => rfl) = outHalf (row c) := by
  have e' := h.eq.trans e; subst e'; rfl

/-- A printed send over the x link is chunk `r`'s, if its operands are. -/
theorem sendX_of {c d : Dev nD} {r : Fin 16} {src dst : Memref sig .tc .vmem S32x256 .f32} {s t : DmaSem sig} {k k' : P F} {h0 h1 h2 h3}
    (hd : d = overX c) (hs : src = inTile (other (row c)) (lane c) r) (ht : dst = outTile (row c) (lane c) r)
    (h : s = dsem 0 r) (h' : t = dsem 1 r) (hk : k = k') :
    (.op (.enqueueDma src (.remote (Dev.tc d) dst (.dma s) h0) (.dma t) h1 h2 h3) fun _ => k : P F) = sendX c r k' := by
  subst hd hs ht h h' hk; rfl
theorem keep_of {c : Dev nD} {src dst : Memref sig .tc .vmem S512x512 .f32} {s : DmaSem sig} {k k' : P F} {h1 h2 h3}
    (hs : src = inHalf (row c)) (ht : dst = outHalf (row c)) (h : s = locS) (hk : k = k') :
    (.op (.enqueueDma src (.here dst) (.dma s) h1 h2 h3) fun _ => k : P F) = keep c k' := by
  subst hs ht h hk; rfl
/-- A printed wait and send are chunk `r`'s, if their operands are. -/
theorem relay_of {c d : Dev nD} {r : Fin 16} {a b e f : Memref sig .tc .vmem S32x256 .f32} {g s t : DmaSem sig} {k k' : P F} {w1 w2 h0 h1 h2 h3}
    (hd : d = overY c) (ha : a = inTile (other (row c)) (lane c) r) (hb : b = outTile (row c) (lane c) r)
    (he : e = outTile (other (row c)) (lane c) r) (hf : f = outTile (other (row c)) (lane c) r)
    (hg : g = dsem 1 r) (h : s = dsem 2 r) (h' : t = dsem 3 r) (hk : k = k') :
    (.op (.waitDma2 g a b w1 w2) fun _ => .op (.enqueueDma e (.remote (Dev.tc d) f (.dma s) h0) (.dma t) h1 h2 h3) fun _ => k : P F) = relay c r k' := by
  subst hd ha hb he hf hg h h' hk; rfl
theorem takeY_of {c : Dev nD} {r : Fin 16} {e f : Memref sig .tc .vmem S32x256 .f32} {g : DmaSem sig} {k k' : P F} {w1 w2}
    (he : e = outTile (other (row c)) (lane c) r) (hf : f = outTile (other (row c)) (lane c) r) (hg : g = dsem 3 r) (hk : k = k') :
    (.op (.waitDma2 g e f w1 w2) fun _ => k : P F) = takeY c r k' := by
  subst he hf hg hk; rfl
theorem drain_of {c : Dev nD} {r : Fin 16} {a b e f : Memref sig .tc .vmem S32x256 .f32} {g s : DmaSem sig} {k k' : P F} {w1 w2 h1 h2}
    (hb : b = outTile (row c) (lane c) r) (ha : a = inTile (other (row c)) (lane c) r)
    (he : e = outTile (other (row c)) (lane c) r) (hf : f = outTile (other (row c)) (lane c) r)
    (hg : g = dsem 0 r) (h : s = dsem 2 r) (hk : k = k') :
    (.op (.waitDma2 g b a w1 w2) fun _ => .op (.waitDma2 s e f h1 h2) fun _ => k : P F) = drain c r k' := by
  subst ha hb he hf hg h hk; rfl
theorem settle_of {c : Dev nD} {src dst : Memref sig .tc .vmem S512x512 .f32} {s : DmaSem sig} {w1 w2}
    (hs : src = inHalf (row c)) (ht : dst = outHalf (row c)) (h : s = locS) :
    (.op (.waitDma2 s src dst w1 w2) fun _ => .ret ⟨⟩ : P F) = settle c := by
  subst hs ht h; rfl

set_option maxHeartbeats 4000000 in
set_option maxRecDepth 100000 in
theorem wp_body (c : Dev nD) (Q : PUnit → sProp 𝕄) :
    wp frame (wpE (defs₀ (F := F)) 𝒱₀ c none) Set.univ
      (cc0_body inM (Memref.isWhole_whole _) outM (Memref.isWhole_whole _) cc0_scratch0 cc0_scratch1 cc0_scratch2 cc0_scratch3 cc0_scratch4) Q
    = wp frame (wpE (defs₀ (F := F)) 𝒱₀ c none) Set.univ (route c) Q := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [semSignalWord, semWaitWord, Prog.lift, Prog.bind_op, Prog.bind_ret, Prog.pure_eq_ret, wp_deviceId]
  simp only [devX c _ (k0_dev1_eq c), devY c _ (k0_dev2_eq c)]
  refine congrArg (fun p => wp frame (wpE (defs₀ (F := F)) 𝒱₀ c none) Set.univ p Q) ?_
  refine congrArg (fun k : P F => (Prog.op (.semSignal (Dev.tc (overX c)) barS 1) fun _ => Prog.op (.semSignal (Dev.tc (overY c)) barS 1) fun _ => Prog.op (.semWait barS 2) fun _ => k : P F)) ?_
  simp only [moves, each, chunks, List.foldr]
  iterate 16 refine sendX_of (devX c _ (by simp only [k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq]) _) (inTile_of rfl) (nearTile_of rfl) rfl rfl ?_
  refine keep_of (inHalf_of rfl) (outHalf_of rfl) rfl ?_
  iterate 16 refine relay_of (devY c _ (by simp only [k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq]) _) (inTile_of rfl) (nearTile_of rfl) (farTile_of rfl) (farTile_of rfl) rfl rfl rfl ?_
  iterate 16 refine takeY_of (farTile_of rfl) (farTile_of rfl) rfl ?_
  iterate 16 refine drain_of (nearTile_of rfl) (inTile_of rfl) (farTile_of rfl) (farTile_of rfl) rfl rfl ?_
  exact settle_of (inHalf_of rfl) (outHalf_of rfl) rfl

end Cert.AllToAll
end
-- ==== Proof.Cells.lean ====
/- The transfers' cells: what each semaphore counts, who pays it, and what each payment hands over.

   A device has 66 semaphores beside the staging ones: the barrier, the local copy's, and four arrays of sixteen. Each has one round.
   The barrier's round has two payments of one unit: the x neighbour's hands over the sixteen blocks of its result into which this
   device sends over the x link, the y neighbour's the sixteen into which it sends over the y link. Every other round has one
   payment, made by a transfer, and hands over the elements the transfer read or wrote. -/
module

public import proofs.«01_k».proof.Proof.Route

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The semaphores by kind -/

/-- The launch's own semaphores: the local copy's, and semaphore `r` of array `j`. -/
abbrev Own : Type := Unit ⊕ (Fin 4 × Fin 16)
/-- With the barrier. -/
abbrev Kind : Type := Unit ⊕ Own

abbrev ownSem : Own → SemLoc sig
  | .inl _ => .dma locS
  | .inr jr => .dma (dsem jr.1 jr.2)
abbrev semOf : Kind → SemLoc sig
  | .inl _ => .reg barS
  | .inr o => ownSem o

abbrev barK : Kind := .inl ()
abbrev locK : Kind := .inr (.inl ())
abbrev dmaK (j : Fin 4) (r : Fin 16) : Kind := .inr (.inr (j, r))

/-- Device `c`'s semaphore of kind `k`. -/
abbrev cell (c : Dev nD) (k : Kind) : GSem nD τ sig := ((c : Thread nD τ), semOf k)

/-- The kind of a semaphore, if it is one of these. -/
def kindOf : SemLoc sig → Option Kind
  | .reg s => if s = barS then some barK else none
  | .dma q => if q.val = 2 then some locK else if h : 3 ≤ q.val ∧ q.val < 67 then
      some (dmaK ⟨(q.val - 3) / 16, by omega⟩ ⟨(q.val - 3) % 16, by omega⟩) else none

theorem kindOf_sem (k : Kind) : kindOf (semOf k) = some k := by
  rcases k with ⟨⟩ | ⟨⟨⟩ | ⟨j, r⟩⟩
  · show (if barS = barS then some barK else none) = some barK
    exact if_pos rfl
  · dsimp only [semOf, ownSem, kindOf]
    exact if_pos locS_val
  · have hv := dsem_val j r
    have hj := j.isLt; have hr := r.isLt
    dsimp only [semOf, ownSem, kindOf]
    rw [if_neg (by omega), dif_pos (by omega)]
    have h1 : (⟨((dsem j r).val - 3) / 16, by omega⟩ : Fin 4) = j := Fin.ext (by show ((dsem j r).val - 3) / 16 = j.val; omega)
    have h2 : (⟨((dsem j r).val - 3) % 16, by omega⟩ : Fin 16) = r := Fin.ext (by show ((dsem j r).val - 3) % 16 = r.val; omega)
    rw [h1, h2]

theorem semOf_inj : Function.Injective semOf := fun a b h => by
  have := congrArg kindOf h
  rw [kindOf_sem, kindOf_sem] at this
  exact Option.some.inj this

/-! ## The amounts -/

/-- A block's credit, and the local copy's. -/
def N : ℕ := (outTile 0 0 0).view.dmaCredit
def NL : ℕ := (outHalf 0).view.dmaCredit
theorem N_pos : 0 < N := View.dmaCredit_pos _ (by decide)
theorem NL_pos : 0 < NL := View.dmaCredit_pos _ (by decide)
theorem outTile_credit (h b : Fin 2) (r : Fin 16) : (outTile h b r).view.dmaCredit = N := rfl
theorem inTile_credit (h b : Fin 2) (r : Fin 16) : (inTile h b r).view.dmaCredit = N := rfl
theorem outHalf_credit (h : Fin 2) : (outHalf h).view.dmaCredit = NL := rfl

def amt : Kind → ℕ
  | .inl _ => 1
  | .inr (.inl _) => NL
  | .inr (.inr _) => N
theorem amt_pos (k : Kind) : 0 < amt k := by
  rcases k with ⟨⟩ | ⟨⟨⟩ | ⟨j, r⟩⟩
  · exact Nat.one_pos
  · exact NL_pos
  · exact N_pos

/-! ## The contents -/

/-- Device `c`'s argument, staged. -/
def xstg (c : Dev nD) : (cc0_stg0_0 : Ref sig .tc).ty.Contents (Elt F) :=
  (win0_0.blk (0 : Fin 1)).view.read (Elt F) ((s₀ m ρ).mem ((c : Thread nD τ).loc main_arg0))

theorem row_lt (i : S1024x512.Idx) : (i 0).val < 1024 := (i 0).isLt
theorem col_lt (i : S1024x512.Idx) : (i 1).val < 512 := (i 1).isLt

/-- The device whose argument holds element `i` of device `c`'s result. -/
def origin (c : Dev nD) (i : S1024x512.Idx) : Dev nD :=
  if (i 0).val / 512 = (row c).val then c
  else at_ ⟨(i 0).val / 512, by have := row_lt i; omega⟩ ⟨(i 1).val / 256, by have := col_lt i; omega⟩

/-- Where in that argument. -/
def spot (c : Dev nD) (i : S1024x512.Idx) : S512x1024.Idx := fun
  | ⟨0, _⟩ => (⟨(i 0).val % 512, Nat.mod_lt _ (by decide)⟩ : Fin 512)
  | ⟨1, _⟩ => (⟨512 * (row c).val + (i 1).val, by have := (row c).isLt; have := col_lt i; omega⟩ : Fin 1024)

/-- Device `c`'s result. -/
def outAt (c : Dev nD) : (cc0_stg1_0 : Ref sig .tc).ty.Contents (Elt F) :=
  fun i : S1024x512.Idx => xstg m ρ (origin c i) (spot c i)

/-! ## The blocks as they are handed over -/

/-- Device `c`'s argument on the sixteen-part source block `r` and on the half that stays. -/
def srcPts (c : Dev nD) (r : Fin 16) : sProp 𝕄 :=
  ((c : Thread nD τ).loc cc0_stg0_0) ↦[(inTile (other (row c)) (lane c) r).view.set]{fullShare} xstg m ρ c
def stayPts (c : Dev nD) : sProp 𝕄 :=
  ((c : Thread nD τ).loc cc0_stg0_0) ↦[(inHalf (row c)).view.set]{fullShare} xstg m ρ c
/-- Device `c`'s result on a block, at given contents. -/
def tilePts (c : Dev nD) (h b : Fin 2) (r : Fin 16) (f : (cc0_stg1_0 : Ref sig .tc).ty.Contents (Elt F)) : sProp 𝕄 :=
  ((c : Thread nD τ).loc cc0_stg1_0) ↦[(outTile h b r).view.set]{fullShare} f
def halfPts (c : Dev nD) (f : (cc0_stg1_0 : Ref sig .tc).ty.Contents (Elt F)) : sProp 𝕄 :=
  ((c : Thread nD τ).loc cc0_stg1_0) ↦[(outHalf (row c)).view.set]{fullShare} f
/-- The block of device `c`'s result that chunk `r` over the x link lands in, and over the y link. -/
def landX (c : Dev nD) (r : Fin 16) (f : (cc0_stg1_0 : Ref sig .tc).ty.Contents (Elt F)) : sProp 𝕄 := tilePts c (other (row c)) (lane c) r f
def landY (c : Dev nD) (r : Fin 16) (f : (cc0_stg1_0 : Ref sig .tc).ty.Contents (Elt F)) : sProp 𝕄 := tilePts c (other (row c)) (other (lane c)) r f

omit [FloatOps F] in
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
omit [FloatOps F] in
instance srcPts_storable (c : Dev nD) (r) : BI.Storable (upEmb : UEmb _ 𝕄) (srcPts m ρ c r) := by unfold srcPts; exact pts_storable _ _ _ _
omit [FloatOps F] in
instance stayPts_storable (c : Dev nD) : BI.Storable (upEmb : UEmb _ 𝕄) (stayPts m ρ c) := by unfold stayPts; exact pts_storable _ _ _ _
omit [FloatOps F] in
instance tilePts_storable (c : Dev nD) (h b r) (f) : BI.Storable (upEmb : UEmb _ 𝕄) (tilePts (F := F) c h b r f) := by unfold tilePts; exact pts_storable _ _ _ _
omit [FloatOps F] in
instance halfPts_storable (c : Dev nD) (f) : BI.Storable (upEmb : UEmb _ 𝕄) (halfPts (F := F) c f) := by unfold halfPts; exact pts_storable _ _ _ _
omit [FloatOps F] in
instance landX_storable (c : Dev nD) (r) (f) : BI.Storable (upEmb : UEmb _ 𝕄) (landX (F := F) c r f) := by unfold landX; infer_instance
omit [FloatOps F] in
instance landY_storable (c : Dev nD) (r) (f) : BI.Storable (upEmb : UEmb _ 𝕄) (landY (F := F) c r f) := by unfold landY; infer_instance

/-! ## The schedule -/

/-- What a payment to device `c`'s semaphore of a kind hands `c`. -/
def pay (c : Dev nD) : Kind → Bool → sProp 𝕄
  | .inl _, false => bigSep Finset.univ fun r : Fin 16 => iprop(∃ f, landX (overX c) r f)
  | .inl _, true => bigSep Finset.univ fun r : Fin 16 => iprop(∃ f, landY (overY c) r f)
  | .inr (.inl _), _ => iprop(halfPts c (outAt m ρ c) ∗ stayPts m ρ c)
  | .inr (.inr (0, r)), _ => srcPts m ρ c r
  | .inr (.inr (1, r)), _ => landX c r (outAt m ρ c)
  | .inr (.inr (2, r)), _ => landX c r (outAt m ρ c)
  | .inr (.inr (3, r)), _ => landY c r (outAt m ρ c)

instance pay_storable (c : Dev nD) (k : Kind) (d : Bool) : BI.Storable (upEmb : UEmb _ 𝕄) (pay m ρ c k d) := by
  rcases k with ⟨⟩ | ⟨⟨⟩ | ⟨j, r⟩⟩
  · cases d <;> (unfold pay; infer_instance)
  · unfold pay; infer_instance
  · fin_cases j <;> (dsimp only [pay]; infer_instance)

/-- The payments a kind's round has. -/
def dutiesOf : Kind → Finset Bool
  | .inl _ => Finset.univ
  | .inr _ => {false}

/-- The schedule: one round per semaphore of the kinds above on each device's core. -/
def rd : Rounds.Schedule (GSem nD τ sig) Bool 𝕄 where
  duties g r := if r = 0 ∧ g.1.2 = .tc then (kindOf g.2).elim ∅ dutiesOf else ∅
  unitless _ := False
  amount g _ _ := (kindOf g.2).elim 1 amt
  payload g _ d := (kindOf g.2).elim iprop(emp) fun k => pay m ρ g.1.1 k d
  amount_pos g _ _ _ := by
    cases h : kindOf g.2 with
    | none => exact Nat.one_pos
    | some k => exact amt_pos k

instance rd_payload_storable (g : GSem nD τ sig) (r : ℕ) (d : Bool) :
    BI.Storable (upEmb : UEmb _ 𝕄) ((rd (F := F) m ρ).payload g r d) := by
  show BI.Storable upEmb ((kindOf g.2).elim iprop(emp) fun k => pay m ρ g.1.1 k d)
  cases kindOf g.2 with
  | none => show BI.Storable upEmb iprop(emp); infer_instance
  | some k => exact pay_storable m ρ g.1.1 k d

section Sched
variable (c : Dev nD) (k : Kind)

omit [FloatOps F] in
theorem rd_duties : (rd (F := F) m ρ).duties (cell c k) 0 = dutiesOf k := by
  dsimp only [rd]
  rw [if_pos ⟨rfl, rfl⟩, kindOf_sem]; rfl
omit [FloatOps F] in
theorem rd_later (g : GSem nD τ sig) : ∀ r, 1 ≤ r → (rd (F := F) m ρ).duties g r = ∅ :=
  fun r hr => if_neg fun h => by omega
omit [FloatOps F] in
theorem rd_amount (d : Bool) : (rd (F := F) m ρ).amount (cell c k) 0 d = amt k := by
  show (kindOf (semOf k)).elim 1 amt = _
  rw [kindOf_sem]; rfl
omit [FloatOps F] in
theorem rd_payload (d : Bool) : (rd (F := F) m ρ).payload (cell c k) 0 d = pay m ρ c k d := by
  show (kindOf (semOf k)).elim iprop(emp) (fun k => pay m ρ c k d) = _
  rw [kindOf_sem]; rfl

omit [FloatOps F] in
theorem rd_expect_bar : (rd (F := F) m ρ).expect (cell c barK) 0 = 2 := by
  unfold Schedule.expect Schedule.amountOf
  rw [rd_duties, Finset.sum_congr rfl fun d _ => rd_amount m ρ c barK d]; rfl
omit [FloatOps F] in
theorem rd_expect (o : Own) : (rd (F := F) m ρ).expect (cell c (.inr o)) 0 = amt (.inr o) := by
  unfold Schedule.expect Schedule.amountOf
  rw [rd_duties, show dutiesOf (.inr o) = {false} from rfl, Finset.sum_singleton, rd_amount]

omit [FloatOps F] in
/-- The barrier's round hands over both neighbours' blocks; -/
theorem rd_rest_bar : bigSep ((rd (F := F) m ρ).duties (cell c barK) 0 \ ∅) (fun d => (rd (F := F) m ρ).payload (cell c barK) 0 d)
    = iprop((bigSep Finset.univ fun r : Fin 16 => iprop(∃ f, landX (overX c) r f)) ∗ bigSep Finset.univ fun r : Fin 16 => iprop(∃ f, landY (overY c) r f)) := by
  rw [Finset.sdiff_empty, rd_duties, show dutiesOf barK = Finset.univ from rfl, bigSep_univ_eq_bigSepL [false, true] (by decide) (by decide), bigSepL_cons_cons, bigSepL_singleton,
    rd_payload, rd_payload]
  rfl
omit [FloatOps F] in
/-- another's, its transfer's payload. -/
theorem rd_rest (o : Own) : bigSep ((rd (F := F) m ρ).duties (cell c (.inr o)) 0 \ ∅) (fun d => (rd (F := F) m ρ).payload (cell c (.inr o)) 0 d) = pay m ρ c (.inr o) false := by
  rw [Finset.sdiff_empty, rd_duties, show dutiesOf (.inr o) = {false} from rfl, bigSep_singleton, rd_payload]

end Sched

end Cert.AllToAll
end
-- ==== Proof.Landing.lean ====
/- What a transfer leaves under its destination is the destination device's result there; and the levels that order the waits. -/
module

public import proofs.«01_k».proof.Proof.Cells

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Where a block's elements come from -/

theorem origin_own (c : Dev nD) (i : S1024x512.Idx) (h : (i 0).val / 512 = (row c).val) : origin c i = c := if_pos h

theorem other_ne (a : Fin 2) : (other a).val ≠ a.val := by revert a; decide

theorem origin_far (c : Dev nD) (i : S1024x512.Idx) (l : Fin 2) (h : (i 0).val / 512 = (other (row c)).val) (hl : (i 1).val / 256 = l.val) :
    origin c i = at_ (other (row c)) l := by
  unfold origin
  rw [if_neg (by rw [h]; exact other_ne _)]
  exact congrArg₂ at_ (Fin.ext h) (Fin.ext hl)

/-- The element of a staging buffer at place `j` of a block. -/
def inIx (h b : Fin 2) (r : Fin 16) (j : S32x256.Idx) : S512x1024.Idx := (inTile h b r).view.emb j
def outIx (h b : Fin 2) (r : Fin 16) (j : S32x256.Idx) : S1024x512.Idx := (outTile h b r).view.emb j
def inHx (h : Fin 2) (j : S512x512.Idx) : S512x1024.Idx := (inHalf h).view.emb j
def outHx (h : Fin 2) (j : S512x512.Idx) : S1024x512.Idx := (outHalf h).view.emb j

/-- Its row and column. -/
theorem inIx_0 (h b : Fin 2) (r : Fin 16) (j : S32x256.Idx) : (inIx h b r j 0).val = 32 * r.val + 1 * (j 0).val := rfl
theorem inIx_1 (h b : Fin 2) (r : Fin 16) (j : S32x256.Idx) : (inIx h b r j 1).val = 512 * h.val + 256 * b.val + 1 * (j 1).val := rfl
theorem outIx_0 (h b : Fin 2) (r : Fin 16) (j : S32x256.Idx) : (outIx h b r j 0).val = 512 * h.val + 32 * r.val + 1 * (j 0).val := rfl
theorem outIx_1 (h b : Fin 2) (r : Fin 16) (j : S32x256.Idx) : (outIx h b r j 1).val = 256 * b.val + 1 * (j 1).val := rfl
theorem inHx_0 (h : Fin 2) (j : S512x512.Idx) : (inHx h j 0).val = 0 + 1 * (j 0).val := rfl
theorem inHx_1 (h : Fin 2) (j : S512x512.Idx) : (inHx h j 1).val = 512 * h.val + 1 * (j 1).val := rfl
theorem outHx_0 (h : Fin 2) (j : S512x512.Idx) : (outHx h j 0).val = 512 * h.val + 1 * (j 0).val := rfl
theorem outHx_1 (h : Fin 2) (j : S512x512.Idx) : (outHx h j 1).val = 0 + 1 * (j 1).val := rfl

theorem spot_0 (c : Dev nD) (i : S1024x512.Idx) : (spot c i 0).val = (i 0).val % 512 := rfl
theorem spot_1 (c : Dev nD) (i : S1024x512.Idx) : (spot c i 1).val = 512 * (row c).val + (i 1).val := rfl

/-- Two elements of the argument's staging buffer in the same row and column are one. -/
theorem in_ext {i i' : S512x1024.Idx} (h0 : (i 0).val = (i' 0).val) (h1 : (i 1).val = (i' 1).val) : i = i' :=
  funext fun a => by fin_cases a <;> exact Fin.ext (by assumption)

omit [FloatOps F] in
theorem outAt_apply (c : Dev nD) (i : S1024x512.Idx) : outAt m ρ c i = xstg m ρ (origin c i) (spot c i) := rfl

omit [FloatOps F] in
/-- An element sent over the x link is the x neighbour's result where it lands. -/
theorem sentX (c : Dev nD) (r : Fin 16) (j : S32x256.Idx) :
    xstg m ρ c (inIx (other (row c)) (lane c) r j) = outAt m ρ (overX c) (outIx (row c) (lane c) r j) := by
  have h0 := outIx_0 (row c) (lane c) r j
  have h1 := outIx_1 (row c) (lane c) r j
  have k0 : (j 0).val < 32 := (j 0).isLt
  have k1 : (j 1).val < 256 := (j 1).isLt
  have hr := r.isLt
  have ho : origin (overX c) (outIx (row c) (lane c) r j) = c := by
    rw [origin_far (overX c) _ (lane c) (by rw [row_overX, other_other, h0]; omega) (by rw [h1]; omega), ← lane_overX c]
    exact overX_overX c
  rw [outAt_apply, ho]
  have hs : (row (overX c)).val = (other (row c)).val := congrArg Fin.val (row_overX c)
  exact congrArg (xstg m ρ c) (in_ext (by rw [inIx_0, spot_0, h0]; omega) (by rw [inIx_1, spot_1, h1]; omega))

omit [FloatOps F] in
/-- A block passed on over the y link is the y neighbour's result too. -/
theorem sentY (c : Dev nD) (r : Fin 16) (j : S32x256.Idx) :
    outAt m ρ c (outIx (other (row c)) (lane c) r j) = outAt m ρ (overY c) (outIx (other (row c)) (lane c) r j) := by
  have h0 := outIx_0 (other (row c)) (lane c) r j
  have h1 := outIx_1 (other (row c)) (lane c) r j
  have k0 : (j 0).val < 32 := (j 0).isLt
  have k1 : (j 1).val < 256 := (j 1).isLt
  have hr := r.isLt
  rw [outAt_apply, outAt_apply, origin_far c _ (lane c) (by rw [h0]; omega) (by rw [h1]; omega),
    origin_far (overY c) _ (lane c) (by rw [row_overY, h0]; omega) (by rw [h1]; omega), row_overY]
  exact congrArg (xstg m ρ _) (in_ext (by rw [spot_0, spot_0]) (by rw [spot_1, spot_1, row_overY]))

omit [FloatOps F] in
/-- The half that stays. -/
theorem kept (c : Dev nD) (j : S512x512.Idx) :
    xstg m ρ c (inHx (row c) j) = outAt m ρ c (outHx (row c) j) := by
  have h0 := outHx_0 (row c) j
  have h1 := outHx_1 (row c) j
  have k0 : (j 0).val < 512 := (j 0).isLt
  have k1 : (j 1).val < 512 := (j 1).isLt
  rw [outAt_apply, origin_own c _ (by rw [h0]; omega)]
  exact congrArg (xstg m ρ c) (in_ext (by rw [inHx_0, spot_0, h0]; omega) (by rw [inHx_1, spot_1, h1]; omega))

omit [FloatOps F] in
/-- After a transfer, an element under the destination is the source's at the same place of the block. -/
theorem under_landed {sp sp' : Space} {s : Shape} {e : EltTy} (src : View sig .tc sp s e) (dst : View sig .tc sp' s e) (fs : src.ty.Contents (Elt F))
    (fd g : dst.ty.Contents (Elt F))
    (h : ∀ j, _root_.cast (congrArg (Elt F) dst.elt_eq.symm) (_root_.cast (congrArg (Elt F) src.elt_eq) (fs (src.emb j))) = g (dst.emb j)) :
    ∀ i ∈ dst.set, dst.write (Elt F) fd (src.read (Elt F) fs) Finset.univ i = g i := fun i hi => by
  obtain ⟨j, -, rfl⟩ := Finset.mem_map.mp hi
  rw [View.write_emb_of_mem _ _ (Finset.mem_univ j), View.read_apply]
  exact h j

/-! ## What is owed, and the levels -/

/-- The level of a kind: barriers at 1, the x link's receive ends at 2, the y link's at 3, everything else at 0. -/
def lev : Kind → ℕ
  | .inl _ => 1
  | .inr (.inr (1, _)) => 2
  | .inr (.inr (3, _)) => 3
  | _ => 0
def L (g : GSem nD τ sig) : Finset Unit := if g.1.2 = .tc then {()} else ∅
def lv (g : GSem nD τ sig) (_ : Unit) : ℕ := (kindOf g.2).elim 0 lev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) (u : Unit) : lv (cell c k) u = lev k := by
  show (kindOf (semOf k)).elim 0 lev = _
  rw [kindOf_sem]; rfl

/-- Everything owed is owed to cells of level `n` or higher. -/
def Above (n : ℕ) (O : CellTallies nD τ sig Unit) : Prop := ∀ g u, 0 < O g u → ∃ d k, g = cell d k ∧ n ≤ lev k

theorem above_zero (n : ℕ) : Above n 0 := fun g u h => absurd h (Nat.lt_irrefl 0)
theorem above_add {n : ℕ} {A B : CellTallies nD τ sig Unit} (hA : Above n A) (hB : Above n B) : Above n (A + B) := fun g u h => by
  rw [Pi.add_apply, Finsupp.add_apply] at h
  rcases Nat.eq_zero_or_pos (A g u) with h0 | h0
  · exact hB g u (by omega)
  · exact hA g u h0
theorem above_tallyAt {n : ℕ} (d : Dev nD) (k : Kind) (a : ℕ) (h : n ≤ lev k) : Above n (tallyAt (cell d k) () a) := fun g u hg => by
  rw [tallyAt_apply] at hg
  by_cases h' : g = cell d k ∧ u = ()
  · exact ⟨d, k, h'.1, h⟩
  · rw [if_neg h'] at hg; exact absurd hg (Nat.lt_irrefl 0)
theorem above_mono {n n' : ℕ} (hn : n' ≤ n) {O : CellTallies nD τ sig Unit} (h : Above n O) : Above n' O := fun g u hg => by
  obtain ⟨d, k, h1, h2⟩ := h g u hg
  exact ⟨d, k, h1, hn.trans h2⟩

omit [FloatOps F] in
/-- A device may wait at a semaphore whose level is below all it owes. -/
theorem mayWait_of (c : Dev nD) (sm : SemLoc sig) {n : ℕ} (hs : lv ((c : Thread nD τ), sm) () < n) {O : CellTallies nD τ sig Unit} (hO : Above n O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp])
    (fun g u hg => by obtain ⟨d, k, rfl, h⟩ := hO g u hg; rw [lv_cell]; omega)

/-- What is owed over a list of chunks, the first one's the last summand. -/
def owing (f : Fin 16 → CellTallies nD τ sig Unit) : List (Fin 16) → CellTallies nD τ sig Unit
  | [] => 0
  | r :: l => owing f l + f r
theorem above_owing {n : ℕ} {f : Fin 16 → CellTallies nD τ sig Unit} (h : ∀ r, Above n (f r)) : ∀ l, Above n (owing f l)
  | [] => above_zero n
  | r :: l => above_add (above_owing h l) (h r)

/-- Device `c` owes the x neighbour's and the y neighbour's receive ends a block's credit each, -/
def dueX (c : Dev nD) (r : Fin 16) : CellTallies nD τ sig Unit := tallyAt (cell (overX c) (dmaK 1 r)) () N
def dueY (c : Dev nD) (r : Fin 16) : CellTallies nD τ sig Unit := tallyAt (cell (overY c) (dmaK 3 r)) () N
theorem above_dueY (c : Dev nD) (l : List (Fin 16)) : Above 3 (owing (dueY c) l) := above_owing (fun r => above_tallyAt _ _ _ (le_refl 3)) l
theorem above_dueX (c : Dev nD) (l : List (Fin 16)) : Above 2 (owing (dueX c) l) := above_owing (fun r => above_tallyAt _ _ _ (le_refl 2)) l
/-- and both neighbours' barriers one unit. -/
def O₂ (c : Dev nD) : CellTallies nD τ sig Unit := owing (dueY c) chunks + owing (dueX c) chunks
def O₁ (c : Dev nD) : CellTallies nD τ sig Unit := O₂ c + tallyAt (cell (overY c) barK) () 1
def O₀ (c : Dev nD) : CellTallies nD τ sig Unit := O₁ c + tallyAt (cell (overX c) barK) () 1

theorem above_O₂ (c : Dev nD) : Above 2 (O₂ c) := above_add (above_mono (by decide) (above_dueY c _)) (above_dueX c _)
theorem above_O₀ (c : Dev nD) : Above 1 (O₀ c) :=
  above_add (above_add (above_mono (by decide) (above_O₂ c)) (above_tallyAt _ _ _ (le_refl 1))) (above_tallyAt _ _ _ (le_refl 1))

end Cert.AllToAll
end
-- ==== Proof.Steps.lean ====
/- The body's steps, each as a rule: a send over a link, the local copy, a wait that ends a semaphore's use; and the rule for a loop. -/
module

public import proofs.«01_k».proof.Proof.Landing
public import Idealize.ShloMosaic.Lib.Pipeline.BigSepL

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## What every device may use throughout -/

/-- Every cell's invariant, under the names `K`, and that every cell's round 0 is reached. -/
def records (K : Dev nD × Kind → ℕ) : sProp 𝕄 :=
  iprop((bigSep Finset.univ fun ck : Dev nD × Kind => cellInv ER (rd m ρ) (K ck) (cell ck.1 ck.2))
    ∗ bigSep Finset.univ fun ck : Dev nD × Kind => reached ER (cell ck.1 ck.2) 0)

instance records_persistent (K : Dev nD × Kind → ℕ) : BI.Persistent (records m ρ K) := by unfold records; infer_instance

variable (K : Dev nD × Kind → ℕ)

omit [FloatOps F] in
theorem inv_at (c : Dev nD) (k : Kind) : records m ρ K ⊢ (cellInv ER (rd m ρ) (K (c, k)) (cell c k) : sProp 𝕄) := by
  unfold records
  iintro ⟨H, -⟩
  have h : (bigSep Finset.univ fun ck : Dev nD × Kind => (cellInv ER (rd m ρ) (K ck) (cell ck.1 ck.2) : sProp 𝕄))
      ⊢ cellInv ER (rd m ρ) (K (c, k)) (cell c k) := bigSep_elim (Finset.mem_univ (c, k))
  iapply h
  iexact H
omit [FloatOps F] in
theorem reached_at (c : Dev nD) (k : Kind) : records m ρ K ⊢ (reached ER (cell c k) 0 : sProp 𝕄) := by
  unfold records
  iintro ⟨-, H⟩
  have h : (bigSep Finset.univ fun ck : Dev nD × Kind => (reached ER (cell ck.1 ck.2) 0 : sProp 𝕄)) ⊢ reached ER (cell c k) 0 :=
    bigSep_elim (Finset.mem_univ (c, k))
  iapply h
  iexact H

/-- The right to make payment `d` to a cell; the owner's place at a cell's start; the credit of a cell's round; what a device owes. -/
def tok (c : Dev nD) (k : Kind) (d : Bool) : sProp 𝕄 := dutyTok ER (cell c k) 0 d
def pos (c : Dev nD) (k : Kind) : sProp 𝕄 := atPos ER (cell c k) 0 ∅ 0
def crd (c : Dev nD) (k : Kind) (n : ℕ) : sProp 𝕄 := cred (tallyAt (cell c k) () n)
def owesAny (c : Dev nD) (O : CellTallies nD τ sig Unit) : sProp 𝕄 := iprop(∃ W, owes (c : Thread nD τ) O W)
/-- A semaphore done with, at zero. -/
def zero (c : Dev nD) (k : Kind) : sProp 𝕄 := semVal (cell c k) 0

/-- A device's program from here on establishes `Q`. -/
abbrev WP (c : Dev nD) (p : P F) (Q : PUnit → sProp 𝕄) : sProp 𝕄 := wp frame (wpE (defs₀ (F := F)) 𝒱₀ c none) Set.univ p Q

/-! ## The steps -/

/-- A wait for an own cell's whole round: its payload, and the semaphore is done with. -/
theorem wait_own (c : Dev nD) (o : Own) {q : DmaSem sig} (hq : SemLoc.dma q = ownSem o) {S : Shape} (a b : Memref sig .tc .vmem S .f32) {w1 w2}
    (hN : b.view.dmaCredit = amt (.inr o)) (k : P F) (Q : PUnit → sProp 𝕄) {O : CellTallies nD τ sig Unit} {n : ℕ} (hO : Above n O) (hn : lev (.inr o) < n) :
    iprop(records m ρ K ∗ levAts L lv ∗ pos c (.inr o) ∗ crd c (.inr o) (amt (.inr o)) ∗ owesAny c O)
      ⊢ iprop(((owesAny c O ∗ zero c (.inr o) ∗ pay m ρ c (.inr o) false) -∗ WP c k Q)
          -∗ WP c (.op (.waitDma2 q a b w1 w2) fun _ => k) Q) := by
  unfold pos crd owesAny zero
  iintro ⟨#HR, #Hlev, Hp, Hc, ⟨%W, HO⟩⟩ Hk
  ihave #HI := (inv_at m ρ K c (.inr o)) $$ HR
  iapply (Rounds.wp_wait_rest_token 𝒱₀ ER (rd m ρ) (c : Thread nD τ) none (κ := K (c, .inr o)) (sm := ownSem o)
      (by rw [← hq]; exact wpE_waitDma2_eq 𝒱₀ (c : Thread nD τ) none Set.univ) (Set.mem_univ _) () (O := O) (W := W) (R := 0) (m := 0) (T := ∅)
      (k := fun _ => k) (by rw [Nat.zero_add]; exact hN.trans (rd_expect m ρ c o).symm)) $$ [Hc HO Hp]
  · isplitr; · iexact HI
    isplitl [Hc]; · rw [hN]; iexact Hc
    isplitl [HO]; · iexact HO
    isplitr; · iapply (mayWait_of c (ownSem o) (lt_of_eq_of_lt (lv_cell c (.inr o) ()) hn) hO); iexact Hlev
    iexact Hp
  iintro ⟨HO, Hp, -, Hpay⟩
  ihave Hpay := (Entails.of_eq (rd_rest m ρ c o)) $$ Hpay
  imod (Rounds.cell_close ER (rd m ρ) (Set.mem_univ (K (c, .inr o))) (fun h => h) (R := 0 + 1) (rd_later m ρ (cell c (.inr o)))) $$ [Hp] with Hz
  · isplitr; · iexact HI
    iexact Hp
  iapply Hk
  isplitl [HO]; · iexists _; iexact HO
  isplitl [Hz]; · iexact Hz
  iexact Hpay

/-- A block sent to device `d`: both ends' payments are made, and what was owed at `d` is paid. -/
theorem send_tile (c d : Dev nD) (js jd : Fin 4) (r : Fin 16) (src dst : Memref sig .tc .vmem S32x256 .f32) {h0 h1 h2 h3}
    (hN : dst.view.dmaCredit = N) (k : P F) (Q : PUnit → sProp 𝕄) (O : CellTallies nD τ sig Unit)
    (fs : Buf (Elt F) (src.view.loc (c : Thread nD τ))) (fd : Buf (Elt F) (dst.view.loc (d : Thread nD τ)))
    (hs : (src.view.loc (c : Thread nD τ) ↦[src.view.set]{fullShare} fs : sProp 𝕄) ⊢ pay m ρ c (dmaK js r) false)
    (hd : (dst.view.loc (d : Thread nD τ) ↦[dst.view.set]{fullShare} (dst.view.write (Elt F) fd (src.view.read (Elt F) fs) Finset.univ) : sProp 𝕄)
      ⊢ pay m ρ d (dmaK jd r) false) :
    iprop(records m ρ K ∗ (src.view.loc (c : Thread nD τ) ↦[src.view.set]{fullShare} fs) ∗ (dst.view.loc (d : Thread nD τ) ↦[dst.view.set]{fullShare} fd)
        ∗ tok c (dmaK js r) false ∗ tok d (dmaK jd r) false ∗ owesAny c (O + tallyAt (cell d (dmaK jd r)) () N))
      ⊢ iprop(((owesAny c O ∗ crd c (dmaK js r) N) -∗ WP c k Q)
          -∗ WP c (.op (.enqueueDma src (.remote (Dev.tc d) dst (.dma (dsem js r)) h0) (.dma (dsem jd r)) h1 h2 h3) fun _ => k) Q) := by
  unfold tok crd owesAny
  iintro ⟨#HR, Hs, Hd, Hts, Htd, ⟨%W, HO⟩⟩ Hk
  ihave #HIs := (inv_at m ρ K c (dmaK js r)) $$ HR
  ihave #HId := (inv_at m ρ K d (dmaK jd r)) $$ HR
  ihave #HRs := (reached_at m ρ K c (dmaK js r)) $$ HR
  ihave #HRd := (reached_at m ρ K d (dmaK jd r)) $$ HR
  iapply (Rounds.wp_send_pointsTo 𝒱₀ ER (rd m ρ) (c : Thread nD τ) none (c' := (d : Thread nD τ)) (src := src) (dst := dst) (sS := .dma (dsem js r)) (sem := .dma (dsem jd r)) (κ₁ := K (c, dmaK js r)) (κ₂ := K (d, dmaK jd r))
    (r₁ := 0) (r₂ := 0) (d₁ := false) (d₂ := false) (fs := fs) (fd := fd) (q := fullShare)
    (by rw [rd_duties m ρ c (dmaK js r)]; exact Finset.mem_singleton_self _) (by rw [rd_duties m ρ d (dmaK jd r)]; exact Finset.mem_singleton_self _)
    () () N hN (rd_amount m ρ c (dmaK js r) false) (rd_amount m ρ d (dmaK jd r) false) O rfl (W := W)
    (by rw [rd_payload m ρ c (dmaK js r)]; exact hs) (by rw [rd_payload m ρ d (dmaK jd r)]; exact hd) (k := fun _ => k)) $$ [Hs Hd Hts Htd HO]
  · isplitr; · iexact HIs
    isplitr; · iexact HId
    isplitl [Hs]; · iexact Hs
    isplitl [Hd]; · iexact Hd
    isplitl [HO]; · iexact HO
    isplitl [Hts]; · iexact Hts
    isplitr; · iexact HRs
    isplitl [Htd]; · iexact Htd
    iexact HRd
  iintro ⟨Hc, HO⟩
  iapply Hk
  isplitl [HO]; · iexists _; iexact HO
  iexact Hc

/-- A loop, by its step: what each chunk needs and gives, and what is carried along. -/
theorem loop (c : Dev nD) (R : sProp 𝕄) [BI.Persistent R] (step : Fin 16 → P F → P F) (A B : Fin 16 → sProp 𝕄) (I : List (Fin 16) → sProp 𝕄) (Q : PUnit → sProp 𝕄)
    (h : ∀ r l k, iprop(R ∗ A r ∗ I (r :: l)) ⊢ iprop(((I l ∗ B r) -∗ WP c k Q) -∗ WP c (step r k) Q)) :
    ∀ l k, iprop(R ∗ bigSepL l A ∗ I l) ⊢ iprop(((I [] ∗ bigSepL l B) -∗ WP c k Q) -∗ WP c (each step l k) Q)
  | [], k => by
    iintro ⟨-, -, HI⟩ Hk
    iapply Hk
    isplitl [HI]; · iexact HI
    iempintro
  | r :: l, k => by
    rw [bigSepL_cons', bigSepL_cons']
    iintro ⟨#HR, ⟨HA, HL⟩, HI⟩ Hk
    iapply (h r l (each step l k)) $$ [HA HI]
    · isplitr; · iexact HR
      isplitl [HA] <;> iassumption
    iintro ⟨HI, HB⟩
    iapply (loop c R step A B I Q h l k) $$ [HL HI]
    · isplitr; · iexact HR
      isplitl [HL] <;> iassumption
    iintro ⟨HI, HL⟩
    iapply Hk
    isplitl [HI]; · iexact HI
    isplitl [HB] <;> iassumption

omit [FloatOps F] in
/-- Over all chunks, in order or at once. -/
theorem over_chunks (A : Fin 16 → sProp 𝕄) : bigSepL chunks A = bigSep Finset.univ A :=
  (bigSep_univ_eq_bigSepL chunks (by decide) (by decide) A).symm

end Cert.AllToAll
end
-- ==== Proof.Body.lean ====
/- The body on one device, run: the handshake, the five loops, and what they leave. -/
module

public import proofs.«01_k».proof.Proof.Steps

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ)

omit [FloatOps F] in
theorem landX_overX (c : Dev nD) (r : Fin 16) (f : (cc0_stg1_0 : Ref sig .tc).ty.Contents (Elt F)) :
    (landX (overX c) r f : sProp 𝕄) = tilePts (overX c) (row c) (lane c) r f := by
  unfold landX; rw [row_overX, lane_overX, other_other]
omit [FloatOps F] in
theorem landY_overY (c : Dev nD) (r : Fin 16) (f : (cc0_stg1_0 : Ref sig .tc).ty.Contents (Elt F)) :
    (landY (overY c) r f : sProp 𝕄) = tilePts (overY c) (other (row c)) (lane c) r f := by
  unfold landY; rw [row_overY, lane_overY, other_other]

/-! ## Assertions in the form the copies and the payloads hold them -/

omit [FloatOps F] in
theorem srcPts_view (c : Dev nD) (r : Fin 16) :
    (srcPts m ρ c r : sProp 𝕄) = ((inTile (other (row c)) (lane c) r).view.loc (c : Thread nD τ) ↦[(inTile (other (row c)) (lane c) r).view.set]{fullShare} xstg m ρ c) := rfl
omit [FloatOps F] in
theorem stayPts_view (c : Dev nD) :
    (stayPts m ρ c : sProp 𝕄) = ((inHalf (row c)).view.loc (c : Thread nD τ) ↦[(inHalf (row c)).view.set]{fullShare} xstg m ρ c) := rfl
omit [FloatOps F] in
theorem tilePts_view (c : Dev nD) (h b : Fin 2) (r : Fin 16) (f : (cc0_stg1_0 : Ref sig .tc).ty.Contents (Elt F)) :
    (tilePts c h b r f : sProp 𝕄) = ((outTile h b r).view.loc (c : Thread nD τ) ↦[(outTile h b r).view.set]{fullShare} f) := rfl
omit [FloatOps F] in
theorem halfPts_view (c : Dev nD) (f : (cc0_stg1_0 : Ref sig .tc).ty.Contents (Elt F)) :
    (halfPts c f : sProp 𝕄) = ((outHalf (row c)).view.loc (c : Thread nD τ) ↦[(outHalf (row c)).view.set]{fullShare} f) := rfl

omit [FloatOps F] in
theorem pay_src (c : Dev nD) (r : Fin 16) : (pay m ρ c (dmaK 0 r) false : sProp 𝕄) = srcPts m ρ c r := rfl
omit [FloatOps F] in
theorem pay_mid (c : Dev nD) (r : Fin 16) : (pay m ρ c (dmaK 1 r) false : sProp 𝕄) = landX c r (outAt m ρ c) := rfl
omit [FloatOps F] in
theorem pay_back (c : Dev nD) (r : Fin 16) : (pay m ρ c (dmaK 2 r) false : sProp 𝕄) = landX c r (outAt m ρ c) := rfl
omit [FloatOps F] in
theorem pay_far (c : Dev nD) (r : Fin 16) : (pay m ρ c (dmaK 3 r) false : sProp 𝕄) = landY c r (outAt m ρ c) := rfl
omit [FloatOps F] in
theorem pay_loc (c : Dev nD) : (pay m ρ c locK false : sProp 𝕄) = iprop(halfPts c (outAt m ρ c) ∗ stayPts m ρ c) := rfl

/-- What a device uses in every step. -/
def common : sProp 𝕄 := iprop(records m ρ K ∗ levAts L lv)
instance common_persistent : BI.Persistent (common m ρ K) := by unfold common; infer_instance

/-! ## The steps of this body -/

theorem sendX_runs (c : Dev nD) (r : Fin 16) (O : CellTallies nD τ sig Unit) (k : P F) (Q : PUnit → sProp 𝕄) :
    iprop(records m ρ K ∗ (srcPts m ρ c r ∗ (∃ f, landX (overX c) r f) ∗ tok c (dmaK 0 r) false ∗ tok (overX c) (dmaK 1 r) false) ∗ owesAny c (O + dueX c r))
      ⊢ iprop(((owesAny c O ∗ crd c (dmaK 0 r) N) -∗ WP c k Q) -∗ WP c (sendX c r k) Q) := by
  iintro ⟨#HR, ⟨Hs, ⟨%f, Hd⟩, Ht, Ht'⟩, HO⟩ Hk
  ihave Hd := (Entails.of_eq ((landX_overX c r f).trans (tilePts_view (overX c) _ _ r f))) $$ Hd
  ihave Hs := (Entails.of_eq (srcPts_view m ρ c r)) $$ Hs
  unfold sendX
  iapply (send_tile m ρ K c (overX c) 0 1 r (inTile (other (row c)) (lane c) r) (outTile (row c) (lane c) r) (outTile_credit _ _ _) k Q O (xstg m ρ c) f
    (Entails.refl _)
    (by
      show _ ⊢ landX (overX c) r (outAt m ρ (overX c))
      rw [landX_overX]
      exact Entails.of_eq (pointsTo_congr (under_landed (inTile (other (row c)) (lane c) r).view (outTile (row c) (lane c) r).view (xstg m ρ c) f _ (sentX m ρ c r))))) $$ [Hs Hd Ht Ht' HO]
  · isplitr; · iexact HR
    isplitl [Hs]; · iexact Hs
    isplitl [Hd]; · iexact Hd
    isplitl [Ht]; · iexact Ht
    isplitl [Ht']; · iexact Ht'
    iexact HO
  iexact Hk

theorem relay_runs (c : Dev nD) (r : Fin 16) (O : CellTallies nD τ sig Unit) (hO : Above 3 O) (k : P F) (Q : PUnit → sProp 𝕄) :
    iprop(common m ρ K ∗ (pos c (dmaK 1 r) ∗ crd c (dmaK 1 r) N ∗ (∃ f, landY (overY c) r f) ∗ tok c (dmaK 2 r) false ∗ tok (overY c) (dmaK 3 r) false)
        ∗ owesAny c (O + dueY c r))
      ⊢ iprop(((owesAny c O ∗ (zero c (dmaK 1 r) ∗ crd c (dmaK 2 r) N)) -∗ WP c k Q) -∗ WP c (relay c r k) Q) := by
  unfold common
  iintro ⟨⟨#HR, #HL⟩, ⟨Hp, Hc, ⟨%f, Hd⟩, Ht, Ht'⟩, HO⟩ Hk
  ihave Hd := (Entails.of_eq ((landY_overY c r f).trans (tilePts_view (overY c) _ _ r f))) $$ Hd
  unfold relay
  iapply (wait_own m ρ K c (.inr (1, r)) rfl (inTile (other (row c)) (lane c) r) (outTile (row c) (lane c) r) (outTile_credit _ _ _) _ Q
    (O := O + dueY c r) (n := 3) (above_add hO (above_tallyAt _ _ _ (le_refl 3))) (show (2 : ℕ) < 3 by decide)) $$ [Hp Hc HO]
  · isplitr; · iexact HR
    isplitr; · iexact HL
    isplitl [Hp]; · iexact Hp
    isplitl [Hc]; · iexact Hc
    iexact HO
  iintro ⟨HO, Hz, Hs⟩
  ihave Hs := (Entails.of_eq ((pay_mid m ρ c r).trans (tilePts_view c _ _ r _))) $$ Hs
  iapply (send_tile m ρ K c (overY c) 2 3 r (outTile (other (row c)) (lane c) r) (outTile (other (row c)) (lane c) r) (outTile_credit _ _ _) k Q O (outAt m ρ c) f
    (Entails.refl _)
    (by
      show _ ⊢ landY (overY c) r (outAt m ρ (overY c))
      rw [landY_overY]
      exact Entails.of_eq (pointsTo_congr (under_landed (outTile (other (row c)) (lane c) r).view (outTile (other (row c)) (lane c) r).view (outAt m ρ c) f _ (sentY m ρ c r))))) $$ [Hs Hd Ht Ht' HO]
  · isplitr; · iexact HR
    isplitl [Hs]; · iexact Hs
    isplitl [Hd]; · iexact Hd
    isplitl [Ht]; · iexact Ht
    isplitl [Ht']; · iexact Ht'
    iexact HO
  iintro ⟨HO, Hc⟩
  iapply Hk
  isplitl [HO]; · iexact HO
  isplitl [Hz] <;> iassumption

theorem takeY_runs (c : Dev nD) (r : Fin 16) (k : P F) (Q : PUnit → sProp 𝕄) :
    iprop(common m ρ K ∗ (pos c (dmaK 3 r) ∗ crd c (dmaK 3 r) N) ∗ owesAny c 0)
      ⊢ iprop(((owesAny c 0 ∗ (zero c (dmaK 3 r) ∗ landY c r (outAt m ρ c))) -∗ WP c k Q) -∗ WP c (takeY c r k) Q) := by
  unfold common
  iintro ⟨⟨#HR, #HL⟩, ⟨Hp, Hc⟩, HO⟩ Hk
  unfold takeY
  iapply (wait_own m ρ K c (.inr (3, r)) rfl (outTile (other (row c)) (lane c) r) (outTile (other (row c)) (lane c) r) (outTile_credit _ _ _) k Q
    (O := 0) (n := 4) (above_zero 4) (show (3 : ℕ) < 4 by decide)) $$ [Hp Hc HO]
  · isplitr; · iexact HR
    isplitr; · iexact HL
    isplitl [Hp]; · iexact Hp
    isplitl [Hc]; · iexact Hc
    iexact HO
  iexact Hk

theorem drain_runs (c : Dev nD) (r : Fin 16) (k : P F) (Q : PUnit → sProp 𝕄) :
    iprop(common m ρ K ∗ ((pos c (dmaK 0 r) ∗ crd c (dmaK 0 r) N) ∗ pos c (dmaK 2 r) ∗ crd c (dmaK 2 r) N) ∗ owesAny c 0)
      ⊢ iprop(((owesAny c 0 ∗ (zero c (dmaK 0 r) ∗ zero c (dmaK 2 r) ∗ srcPts m ρ c r ∗ landX c r (outAt m ρ c))) -∗ WP c k Q) -∗ WP c (drain c r k) Q) := by
  unfold common
  iintro ⟨⟨#HR, #HL⟩, ⟨⟨Hp, Hc⟩, Hp', Hc'⟩, HO⟩ Hk
  unfold drain
  iapply (wait_own m ρ K c (.inr (0, r)) rfl (outTile (row c) (lane c) r) (inTile (other (row c)) (lane c) r) (inTile_credit _ _ _) _ Q
    (O := 0) (n := 4) (above_zero 4) (show (0 : ℕ) < 4 by decide)) $$ [Hp Hc HO]
  · isplitr; · iexact HR
    isplitr; · iexact HL
    isplitl [Hp]; · iexact Hp
    isplitl [Hc]; · iexact Hc
    iexact HO
  iintro ⟨HO, Hz, Hs⟩
  iapply (wait_own m ρ K c (.inr (2, r)) rfl (outTile (other (row c)) (lane c) r) (outTile (other (row c)) (lane c) r) (outTile_credit _ _ _) k Q
    (O := 0) (n := 4) (above_zero 4) (show (0 : ℕ) < 4 by decide)) $$ [Hp' Hc' HO]
  · isplitr; · iexact HR
    isplitr; · iexact HL
    isplitl [Hp']; · iexact Hp'
    isplitl [Hc']; · iexact Hc'
    iexact HO
  iintro ⟨HO, Hz', Hx⟩
  ihave Hs := (Entails.of_eq (pay_src m ρ c r)) $$ Hs
  ihave Hx := (Entails.of_eq (pay_back m ρ c r)) $$ Hx
  iapply Hk
  isplitl [HO]; · iexact HO
  isplitl [Hz]; · iexact Hz
  isplitl [Hz']; · iexact Hz'
  isplitl [Hs]; · iexact Hs
  iexact Hx

theorem keep_runs (c : Dev nD) (f : (cc0_stg1_0 : Ref sig .tc).ty.Contents (Elt F)) (k : P F) (Q : PUnit → sProp 𝕄) :
    iprop(records m ρ K ∗ stayPts m ρ c ∗ halfPts c f ∗ tok c locK false)
      ⊢ iprop((crd c locK NL -∗ WP c k Q) -∗ WP c (keep c k) Q) := by
  unfold tok crd keep
  iintro ⟨#HR, Hs, Hd, Ht⟩ Hk
  ihave Hs := (Entails.of_eq (stayPts_view m ρ c)) $$ Hs
  ihave Hd := (Entails.of_eq (halfPts_view c f)) $$ Hd
  ihave #HI := (inv_at m ρ K c locK) $$ HR
  ihave #HR' := (reached_at m ρ K c locK) $$ HR
  iapply (Rounds.wp_copy_pointsTo 𝒱₀ ER (rd m ρ) (c : Thread nD τ) none (κ := K (c, locK)) (src := inHalf (row c)) (dst := outHalf (row c)) (sem := .dma locS)
    (r := 0) (d := false) (q := fullShare) (fs := xstg m ρ c) (fd := f)
    (by rw [rd_duties m ρ c locK]; exact Finset.mem_singleton_self _) () NL (outHalf_credit _) (rd_amount m ρ c locK false)
    (by
      rw [rd_payload m ρ c locK]
      show _ ⊢ iprop(halfPts c (outAt m ρ c) ∗ stayPts m ρ c)
      refine sep_mono_left (Entails.of_eq ?_)
      exact pointsTo_congr (under_landed (inHalf (row c)).view (outHalf (row c)).view (xstg m ρ c) f _ (kept m ρ c))) (k := fun _ => k)) $$ [Hs Hd Ht]
  · isplitr; · iexact HI
    isplitl [Hs]; · iexact Hs
    isplitl [Hd]; · iexact Hd
    isplitl [Ht]; · iexact Ht
    iexact HR'
  iexact Hk

theorem settle_runs (c : Dev nD) (Q : PUnit → sProp 𝕄) :
    iprop(common m ρ K ∗ pos c locK ∗ crd c locK NL ∗ owesAny c 0)
      ⊢ iprop(((owesAny c 0 ∗ zero c locK ∗ halfPts c (outAt m ρ c) ∗ stayPts m ρ c) -∗ Q ⟨⟩) -∗ WP c (settle c) Q) := by
  unfold common
  iintro ⟨⟨#HR, #HL⟩, Hp, Hc, HO⟩ Hk
  unfold settle
  iapply (wait_own m ρ K c (.inl ()) rfl (inHalf (row c)) (outHalf (row c)) (outHalf_credit _) (.ret ⟨⟩) Q
    (O := 0) (n := 4) (above_zero 4) (by decide)) $$ [Hp Hc HO]
  · isplitr; · iexact HR
    isplitr; · iexact HL
    isplitl [Hp]; · iexact Hp
    isplitl [Hc]; · iexact Hc
    iexact HO
  iintro ⟨HO, Hz, H⟩
  ihave H := (Entails.of_eq (pay_loc m ρ c)) $$ H
  unfold WP
  rw [wp_ret]
  imodintro
  iapply Hk
  isplitl [HO]; · iexact HO
  isplitl [Hz]; · iexact Hz
  iexact H

/-! ## The loops -/

/-- One assertion for every chunk. -/
abbrev rows (A : Fin 16 → sProp 𝕄) : sProp 𝕄 := bigSep Finset.univ A

/-- A loop over the chunks, by its step, with what is carried along beside what the chunks need and give. -/
theorem loop_rows (c : Dev nD) (step : Fin 16 → P F → P F) (A B : Fin 16 → sProp 𝕄) (I : List (Fin 16) → sProp 𝕄)
    (h : ∀ r l k Q, iprop(common m ρ K ∗ A r ∗ I (r :: l)) ⊢ iprop(((I l ∗ B r) -∗ WP c k Q) -∗ WP c (step r k) Q)) (k : P F) (Q : PUnit → sProp 𝕄) :
    iprop(common m ρ K ∗ rows A ∗ I chunks) ⊢ iprop(((I [] ∗ rows B) -∗ WP c k Q) -∗ WP c (each step chunks k) Q) := by
  have := loop c (common m ρ K) step A B I Q (fun r l k => h r l k Q) chunks k
  rw [over_chunks, over_chunks] at this
  exact this

/-- What a device's own semaphores on channel `j` of every chunk hold when done with. -/
abbrev zeros (c : Dev nD) (j : Fin 4) : sProp 𝕄 := rows fun r => zero c (dmaK j r)

/-- What the sends over the x link take. -/
def sendNeed (c : Dev nD) : sProp 𝕄 :=
  rows fun r => iprop(srcPts m ρ c r ∗ (∃ f, landX (overX c) r f) ∗ tok c (dmaK 0 r) false ∗ tok (overX c) (dmaK 1 r) false)
/-- What the forwarding takes. -/
def relayNeed (c : Dev nD) : sProp 𝕄 :=
  rows fun r => iprop(pos c (dmaK 1 r) ∗ crd c (dmaK 1 r) N ∗ (∃ f, landY (overY c) r f) ∗ tok c (dmaK 2 r) false ∗ tok (overY c) (dmaK 3 r) false)
/-- What the receives over the y link take. -/
def takeNeed (c : Dev nD) : sProp 𝕄 := rows fun r => iprop(pos c (dmaK 3 r) ∗ crd c (dmaK 3 r) N)

theorem sends_run (c : Dev nD) (k : P F) (Q : PUnit → sProp 𝕄) :
    iprop(common m ρ K ∗ sendNeed m ρ c ∗ owesAny c (O₂ c))
      ⊢ iprop(((owesAny c (owing (dueY c) chunks) ∗ rows fun r => crd c (dmaK 0 r) N) -∗ WP c k Q) -∗ WP c (each (sendX c) chunks k) Q) := by
  have h := loop_rows m ρ K c (sendX c)
    (fun r => iprop(srcPts m ρ c r ∗ (∃ f, landX (overX c) r f) ∗ tok c (dmaK 0 r) false ∗ tok (overX c) (dmaK 1 r) false))
    (fun r => crd c (dmaK 0 r) N) (fun l => owesAny c (owing (dueY c) chunks + owing (dueX c) l))
    (fun r l k Q => by
      have e := sendX_runs m ρ K c r (owing (dueY c) chunks + owing (dueX c) l) k Q
      rw [add_assoc] at e
      have g : (common m ρ K : sProp 𝕄) ⊢ records m ρ K := by unfold common; iintro ⟨#H, -⟩; iexact H
      exact (sep_mono_left g).trans e) k Q
  rw [show owing (dueX c) [] = 0 from rfl, add_zero] at h
  exact h

theorem relays_run (c : Dev nD) (k : P F) (Q : PUnit → sProp 𝕄) :
    iprop(common m ρ K ∗ relayNeed c ∗ owesAny c (owing (dueY c) chunks))
      ⊢ iprop(((owesAny c 0 ∗ rows fun r => iprop(zero c (dmaK 1 r) ∗ crd c (dmaK 2 r) N)) -∗ WP c k Q) -∗ WP c (each (relay c) chunks k) Q) :=
  loop_rows m ρ K c (relay c) _ (fun r => iprop(zero c (dmaK 1 r) ∗ crd c (dmaK 2 r) N)) (fun l => owesAny c (owing (dueY c) l))
    (fun r l k Q => relay_runs m ρ K c r (owing (dueY c) l) (above_dueY c l) k Q) k Q

theorem takes_run (c : Dev nD) (k : P F) (Q : PUnit → sProp 𝕄) :
    iprop(common m ρ K ∗ takeNeed c ∗ owesAny c 0)
      ⊢ iprop(((owesAny c 0 ∗ rows fun r => iprop(zero c (dmaK 3 r) ∗ landY c r (outAt m ρ c))) -∗ WP c k Q) -∗ WP c (each (takeY c) chunks k) Q) :=
  loop_rows m ρ K c (takeY c) _ (fun r => iprop(zero c (dmaK 3 r) ∗ landY c r (outAt m ρ c))) (fun _ => owesAny c 0)
    (fun r _ k Q => takeY_runs m ρ K c r k Q) k Q

theorem drains_run (c : Dev nD) (k : P F) (Q : PUnit → sProp 𝕄) :
    iprop(common m ρ K ∗ (rows fun r => iprop((pos c (dmaK 0 r) ∗ crd c (dmaK 0 r) N) ∗ pos c (dmaK 2 r) ∗ crd c (dmaK 2 r) N)) ∗ owesAny c 0)
      ⊢ iprop(((owesAny c 0 ∗ rows fun r => iprop(zero c (dmaK 0 r) ∗ zero c (dmaK 2 r) ∗ srcPts m ρ c r ∗ landX c r (outAt m ρ c))) -∗ WP c k Q)
          -∗ WP c (each (drain c) chunks k) Q) :=
  loop_rows m ρ K c (drain c) _ (fun r => iprop(zero c (dmaK 0 r) ∗ zero c (dmaK 2 r) ∗ srcPts m ρ c r ∗ landX c r (outAt m ρ c))) (fun _ => owesAny c 0)
    (fun r _ k Q => drain_runs m ρ K c r k Q) k Q

omit [FloatOps F] in
theorem gives_four (A B C D : Fin 16 → sProp 𝕄) : rows (fun r => iprop(A r ∗ B r ∗ C r ∗ D r)) = iprop(rows A ∗ rows B ∗ rows C ∗ rows D) := by
  simp only [rows, bigSep_sep']

/-- What a device's memory holds when every move is done: its shard where chunks left from and where it stayed, and the result. -/
def doneMem (c : Dev nD) : sProp 𝕄 :=
  iprop(stayPts m ρ c ∗ (rows fun r => srcPts m ρ c r) ∗ halfPts c (outAt m ρ c) ∗ (rows fun r => landX c r (outAt m ρ c)) ∗ rows fun r => landY c r (outAt m ρ c))
/-- A device's own semaphores, all at zero. -/
def ownZeros (c : Dev nD) : sProp 𝕄 := iprop(zero c locK ∗ zeros c 0 ∗ zeros c 1 ∗ zeros c 2 ∗ zeros c 3)
/-- What the local copy takes, and what the last waits take. -/
def keepNeed (c : Dev nD) : sProp 𝕄 := iprop(stayPts m ρ c ∗ (∃ f, halfPts c f) ∗ tok c locK false)
def drainNeed (c : Dev nD) : sProp 𝕄 := iprop(pos c locK ∗ (rows fun r => pos c (dmaK 0 r)) ∗ rows fun r => pos c (dmaK 2 r))

/-- Everything after the handshake. -/
theorem moves_run (c : Dev nD) (Q : PUnit → sProp 𝕄) :
    iprop(common m ρ K ∗ sendNeed m ρ c ∗ keepNeed m ρ c ∗ relayNeed c ∗ takeNeed c ∗ drainNeed c ∗ owesAny c (O₂ c))
      ⊢ iprop(((owesAny c 0 ∗ ownZeros c ∗ doneMem m ρ c) -∗ Q ⟨⟩) -∗ WP c (moves c) Q) := by
  unfold keepNeed drainNeed ownZeros doneMem moves
  iintro ⟨#HC, Hsend, ⟨Hstay, ⟨%f, Hhalf⟩, Htl⟩, Hrel, Htake, ⟨Hpl, Hp0, Hp2⟩, HO⟩ Hk
  iapply (sends_run m ρ K c) $$ [Hsend HO]
  · isplitr; · iexact HC
    isplitl [Hsend] <;> iassumption
  iintro ⟨HO, Hc0⟩
  iapply (keep_runs m ρ K c f) $$ [Hstay Hhalf Htl]
  · isplitr; · unfold common; icases HC with ⟨#HR, -⟩; iexact HR
    isplitl [Hstay]; · iexact Hstay
    isplitl [Hhalf] <;> iassumption
  iintro Hcl
  iapply (relays_run m ρ K c) $$ [Hrel HO]
  · isplitr; · iexact HC
    isplitl [Hrel] <;> iassumption
  iintro ⟨HO, H1⟩
  ihave H1 := (Entails.of_eq (bigSep_sep' _ _ _)) $$ H1
  icases H1 with ⟨Hz1, Hc2⟩
  iapply (takes_run m ρ K c) $$ [Htake HO]
  · isplitr; · iexact HC
    isplitl [Htake] <;> iassumption
  iintro ⟨HO, H3⟩
  ihave H3 := (Entails.of_eq (bigSep_sep' _ _ _)) $$ H3
  icases H3 with ⟨Hz3, HY⟩
  iapply (drains_run m ρ K c) $$ [Hp0 Hp2 Hc0 Hc2 HO]
  · isplitr; · iexact HC
    isplitr [HO]
    · simp only [rows, bigSep_sep']
      isplitl [Hp0 Hc0]
      · isplitl [Hp0] <;> iassumption
      isplitl [Hp2] <;> iassumption
    iexact HO
  iintro ⟨HO, H⟩
  ihave H := (Entails.of_eq (gives_four _ _ _ _)) $$ H
  icases H with ⟨Hz0, Hz2, HS, HX⟩
  iapply (settle_runs m ρ K c) $$ [Hpl Hcl HO]
  · isplitr; · iexact HC
    isplitl [Hpl]; · iexact Hpl
    isplitl [Hcl] <;> iassumption
  iintro ⟨HO, Hzl, Hhalf, Hstay⟩
  iapply Hk
  isplitl [HO]; · iexact HO
  isplitl [Hzl Hz0 Hz1 Hz2 Hz3]
  · isplitl [Hzl]; · iexact Hzl
    isplitl [Hz0]; · iexact Hz0
    isplitl [Hz1]; · iexact Hz1
    isplitl [Hz2] <;> iassumption
  isplitl [Hstay]; · iexact Hstay
  isplitl [HS]; · iexact HS
  isplitl [Hhalf]; · iexact Hhalf
  isplitl [HX] <;> iassumption

/-! ## The handshake -/

/-- What the moves take besides the blocks of the neighbours' results, which the handshake brings. -/
def sendOwn (c : Dev nD) : sProp 𝕄 :=
  rows fun r => iprop(srcPts m ρ c r ∗ tok c (dmaK 0 r) false ∗ tok (overX c) (dmaK 1 r) false)
def relayOwn (c : Dev nD) : sProp 𝕄 :=
  rows fun r => iprop(pos c (dmaK 1 r) ∗ crd c (dmaK 1 r) N ∗ tok c (dmaK 2 r) false ∗ tok (overY c) (dmaK 3 r) false)
/-- The blocks of a device's own result that its neighbours write: at any contents. -/
def givenX (c : Dev nD) : sProp 𝕄 := rows fun r => iprop(∃ f, landX c r f)
def givenY (c : Dev nD) : sProp 𝕄 := rows fun r => iprop(∃ f, landY c r f)
/-- A device's barrier: its place and credit, and the payments it makes at its neighbours'. -/
def meet (c : Dev nD) : sProp 𝕄 := iprop(pos c barK ∗ crd c barK 2 ∗ tok (overX c) barK false ∗ tok (overY c) barK true)

theorem send_needs (c : Dev nD) : iprop(sendOwn m ρ c ∗ givenX (overX c)) ⊢ sendNeed m ρ c := by
  unfold sendOwn givenX sendNeed
  rw [← bigSep_sep']
  refine bigSep_mono fun r _ => ?_
  show (_ : sProp 𝕄) ⊢ _
  iintro ⟨⟨Hs, Ht, Ht'⟩, Hd⟩
  isplitl [Hs]; · iexact Hs
  isplitl [Hd]; · iexact Hd
  isplitl [Ht] <;> iassumption
theorem relay_needs (c : Dev nD) : (iprop(relayOwn c ∗ givenY (overY c)) : sProp 𝕄) ⊢ relayNeed c := by
  unfold relayOwn givenY relayNeed
  rw [← bigSep_sep']
  refine bigSep_mono fun r _ => ?_
  show (_ : sProp 𝕄) ⊢ _
  iintro ⟨⟨Hp, Hc, Ht, Ht'⟩, Hd⟩
  isplitl [Hp]; · iexact Hp
  isplitl [Hc]; · iexact Hc
  isplitl [Hd]; · iexact Hd
  isplitl [Ht] <;> iassumption

omit [FloatOps F] in
theorem pay_meetX (c : Dev nD) : (pay m ρ (overX c) barK false : sProp 𝕄) = givenX c := by
  show (bigSep Finset.univ fun r : Fin 16 => iprop(∃ f, landX (overX (overX c)) r f)) = _
  rw [overX_overX]; rfl
omit [FloatOps F] in
theorem pay_meetY (c : Dev nD) : (pay m ρ (overY c) barK true : sProp 𝕄) = givenY c := by
  show (bigSep Finset.univ fun r : Fin 16 => iprop(∃ f, landY (overY (overY c)) r f)) = _
  rw [overY_overY]; rfl

/-- What the program of one device takes, beside the records: its places and credits, its payments, its memory. -/
def need (c : Dev nD) : sProp 𝕄 :=
  iprop(meet c ∗ givenX c ∗ givenY c ∗ sendOwn m ρ c ∗ keepNeed m ρ c ∗ relayOwn c ∗ takeNeed c ∗ drainNeed c)

/-- The whole program of one device: all its semaphores end at zero, its shard is as it was, its result is written. -/
theorem route_runs (c : Dev nD) (Q : PUnit → sProp 𝕄) :
    iprop(common m ρ K ∗ need m ρ c ∗ owesAny c (O₀ c))
      ⊢ iprop(((owesAny c 0 ∗ zero c barK ∗ ownZeros c ∗ doneMem m ρ c) -∗ Q ⟨⟩) -∗ WP c (route c) Q) := by
  unfold need meet owesAny tok pos crd route zero
  iintro ⟨#HC, ⟨⟨Hp, Hc, Htx, Hty⟩, HX, HY, Hsend, Hkeep, Hrel, Htake, Hdrain⟩, ⟨%W, HO⟩⟩ Hk
  unfold common
  icases HC with ⟨#HR, #HL⟩
  ihave #HI := (inv_at m ρ K c barK) $$ HR
  ihave #HIx := (inv_at m ρ K (overX c) barK) $$ HR
  ihave #HIy := (inv_at m ρ K (overY c) barK) $$ HR
  ihave #HRx := (reached_at m ρ K (overX c) barK) $$ HR
  ihave #HRy := (reached_at m ρ K (overY c) barK) $$ HR
  iapply (Rounds.wp_signal 𝒱₀ ER (rd m ρ) (c : Thread nD τ) none (dst := (overX c : Thread nD τ)) (κ := K (overX c, barK)) (d := false)
      (by rw [rd_duties m ρ (overX c) barK]; decide) ((rd_amount m ρ (overX c) barK false).trans (by decide)) () (O₁ c) rfl) $$ [HO Htx HX]
  · isplitr; · iexact HIx
    isplitl [HO]; · iexact HO
    isplitl [Htx]; · iexact Htx
    isplitl [HX]; · rw [rd_payload m ρ (overX c) barK, pay_meetX]; iexact HX
    iexact HRx
  iintro HO
  iapply (Rounds.wp_signal 𝒱₀ ER (rd m ρ) (c : Thread nD τ) none (dst := (overY c : Thread nD τ)) (κ := K (overY c, barK)) (d := true)
      (by rw [rd_duties m ρ (overY c) barK]; decide) ((rd_amount m ρ (overY c) barK true).trans (by decide)) () (O₂ c) rfl) $$ [HO Hty HY]
  · isplitr; · iexact HIy
    isplitl [HO]; · iexact HO
    isplitl [Hty]; · iexact Hty
    isplitl [HY]; · rw [rd_payload m ρ (overY c) barK, pay_meetY]; iexact HY
    iexact HRy
  iintro HO
  iapply (Rounds.wp_wait_rest_token 𝒱₀ ER (rd m ρ) (c : Thread nD τ) none (κ := K (c, barK)) (sm := .reg barS)
      (wpE_semWait_eq 𝒱₀ (c : Thread nD τ) none Set.univ) (Set.mem_univ _) () (O := O₂ c) (R := 0) (m := 0) (T := ∅)
      (k := fun _ => moves c) (by rw [Nat.zero_add]; exact (rd_expect_bar m ρ c).symm)) $$ [Hc HO Hp]
  · isplitr; · iexact HI
    isplitl [Hc]; · iexact Hc
    isplitl [HO]; · iexact HO
    isplitr; · iapply (mayWait_of c (.reg barS) (lt_of_eq_of_lt (lv_cell c barK ()) (show (1 : ℕ) < 2 by decide)) (above_O₂ c)); iexact HL
    iexact Hp
  iintro ⟨HO, Hp, -, Hpay⟩
  ihave Hpay := (Entails.of_eq (rd_rest_bar m ρ c)) $$ Hpay
  icases Hpay with ⟨HX, HY⟩
  imod (Rounds.cell_close ER (rd m ρ) (Set.mem_univ (K (c, barK))) (fun h => h) (R := 0 + 1) (rd_later m ρ (cell c barK))) $$ [Hp] with Hz
  · isplitr; · iexact HI
    iexact Hp
  ihave Hsend := (send_needs m ρ c) $$ [Hsend HX]
  · isplitl [Hsend]; · iexact Hsend
    unfold givenX; iexact HX
  ihave Hrel := (relay_needs c) $$ [Hrel HY]
  · isplitl [Hrel]; · iexact Hrel
    unfold givenY; iexact HY
  iapply (moves_run m ρ K c) $$ [Hsend Hkeep Hrel Htake Hdrain HO]
  · isplitr; · unfold common; isplitr; · iexact HR
               iexact HL
    isplitl [Hsend]; · iexact Hsend
    isplitl [Hkeep]; · iexact Hkeep
    isplitl [Hrel]; · iexact Hrel
    isplitl [Htake]; · iexact Htake
    isplitl [Hdrain]; · iexact Hdrain
    unfold owesAny
    iexists _; iexact HO
  iintro ⟨HO, Hown, Hmem⟩
  iapply Hk
  isplitl [HO]; · unfold owesAny; iexact HO
  isplitl [Hz]; · iexact Hz
  isplitl [Hown] <;> iassumption

end Cert.AllToAll
end
-- ==== Proof.Blocks.lean ====
/- A device's buffers cut into the blocks that move, and put together again. -/
module

public import proofs.«01_k».proof.Proof.Body

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Which elements each block holds -/

theorem mem_outTile (h b : Fin 2) (r : Fin 16) (i : S1024x512.Idx) :
    i ∈ (outTile h b r).view.set ↔ (512 * h.val + 32 * r.val ≤ (i 0).val ∧ (i 0).val < 512 * h.val + 32 * r.val + 32)
      ∧ 256 * b.val ≤ (i 1).val ∧ (i 1).val < 256 * b.val + 256 := by
  unfold outTile
  erw [View.set_slice_whole, Rect.mem_set_unit, Fin.forall_fin_two]
  exact Iff.rfl
theorem mem_outHalf (h : Fin 2) (i : S1024x512.Idx) :
    i ∈ (outHalf h).view.set ↔ (512 * h.val ≤ (i 0).val ∧ (i 0).val < 512 * h.val + 512) ∧ 0 ≤ (i 1).val ∧ (i 1).val < 0 + 512 := by
  unfold outHalf
  erw [View.set_slice_whole, Rect.mem_set_unit, Fin.forall_fin_two]
  exact Iff.rfl
theorem mem_inTile (h b : Fin 2) (r : Fin 16) (i : S512x1024.Idx) :
    i ∈ (inTile h b r).view.set ↔ (32 * r.val ≤ (i 0).val ∧ (i 0).val < 32 * r.val + 32)
      ∧ 512 * h.val + 256 * b.val ≤ (i 1).val ∧ (i 1).val < 512 * h.val + 256 * b.val + 256 := by
  unfold inTile
  erw [View.set_slice_whole, Rect.mem_set_unit, Fin.forall_fin_two]
  exact Iff.rfl
theorem mem_inHalf (h : Fin 2) (i : S512x1024.Idx) :
    i ∈ (inHalf h).view.set ↔ (0 ≤ (i 0).val ∧ (i 0).val < 0 + 512) ∧ 512 * h.val ≤ (i 1).val ∧ (i 1).val < 512 * h.val + 512 := by
  unfold inHalf
  erw [View.set_slice_whole, Rect.mem_set_unit, Fin.forall_fin_two]
  exact Iff.rfl

/-! ## Blocks that share nothing -/

theorem other_val (a : Fin 2) : (other a).val = 1 - a.val := rfl

theorem outTile_apart (h b : Fin 2) {r r' : Fin 16} (hr : r ≠ r') : Disjoint (outTile h b r).view.set (outTile h b r').view.set :=
  Finset.disjoint_left.mpr fun (i : S1024x512.Idx) hi hi' => hr (Fin.ext (by
    obtain ⟨h0, -⟩ := (mem_outTile h b r i).mp hi
    obtain ⟨h0', -⟩ := (mem_outTile h b r' i).mp hi'
    omega))
theorem inTile_apart (h b : Fin 2) {r r' : Fin 16} (hr : r ≠ r') : Disjoint (inTile h b r).view.set (inTile h b r').view.set :=
  Finset.disjoint_left.mpr fun (i : S512x1024.Idx) hi hi' => hr (Fin.ext (by
    obtain ⟨h0, -⟩ := (mem_inTile h b r i).mp hi
    obtain ⟨h0', -⟩ := (mem_inTile h b r' i).mp hi'
    omega))

/-- All chunks of a quarter of the result. -/
def outQuarter (h b : Fin 2) : Finset S1024x512.Idx := Finset.univ.biUnion fun r : Fin 16 => (outTile h b r).view.set
/-- All chunks of a quarter of the argument. -/
def inQuarter (h b : Fin 2) : Finset S512x1024.Idx := Finset.univ.biUnion fun r : Fin 16 => (inTile h b r).view.set

theorem mem_outQuarter (h b : Fin 2) (i : S1024x512.Idx) :
    i ∈ outQuarter h b ↔ (512 * h.val ≤ (i 0).val ∧ (i 0).val < 512 * h.val + 512) ∧ 256 * b.val ≤ (i 1).val ∧ (i 1).val < 256 * b.val + 256 := by
  constructor
  · intro hi
    obtain ⟨r, -, hr⟩ := Finset.mem_biUnion.mp hi
    have := (mem_outTile h b r i).mp hr
    omega
  · intro hi
    have e : ((i 0).val - 512 * h.val) / 32 < 16 := by omega
    exact Finset.mem_biUnion.mpr ⟨⟨_, e⟩, Finset.mem_univ _, (mem_outTile h b _ i).mpr (by dsimp only; omega)⟩
theorem mem_inQuarter (h b : Fin 2) (i : S512x1024.Idx) (hi : i ∈ inQuarter h b) :
    512 * h.val + 256 * b.val ≤ (i 1).val ∧ (i 1).val < 512 * h.val + 256 * b.val + 256 := by
  obtain ⟨r, -, hr⟩ := Finset.mem_biUnion.mp hi
  exact ((mem_inTile h b r i).mp hr).2

theorem quarters_apart (h b : Fin 2) : Disjoint (outQuarter h b) (outQuarter h (other b)) :=
  Finset.disjoint_left.mpr fun i hi hi' => by
    have := (mem_outQuarter _ _ i).mp hi
    have := (mem_outQuarter _ _ i).mp hi'
    have := other_val b
    omega
theorem half_apart (h b : Fin 2) : Disjoint (outHalf h).view.set (outQuarter (other h) b ∪ outQuarter (other h) (other b)) :=
  Finset.disjoint_left.mpr fun (i : S1024x512.Idx) hi hi' => by
    have := (mem_outHalf _ i).mp hi
    have e := other_val h
    rcases Finset.mem_union.mp hi' with hi' | hi' <;>
    · have := (mem_outQuarter _ _ i).mp hi'
      omega
theorem cover (h b : Fin 2) : (outHalf h).view.set ∪ (outQuarter (other h) b ∪ outQuarter (other h) (other b)) = Finset.univ :=
  Finset.eq_univ_iff_forall.mpr fun (i : S1024x512.Idx) => by
    have e := other_val h
    have e' := other_val b
    have h0 : (i 0).val < 1024 := (i 0).isLt
    have h1 : (i 1).val < 512 := (i 1).isLt
    by_cases g : 512 * h.val ≤ (i 0).val ∧ (i 0).val < 512 * h.val + 512
    · exact Finset.mem_union_left _ ((mem_outHalf h i).mpr ⟨g, by omega⟩)
    · by_cases g' : 256 * b.val ≤ (i 1).val ∧ (i 1).val < 256 * b.val + 256
      · exact Finset.mem_union_right _ (Finset.mem_union_left _ ((mem_outQuarter _ _ i).mpr ⟨by omega, g'⟩))
      · exact Finset.mem_union_right _ (Finset.mem_union_right _ ((mem_outQuarter _ _ i).mpr ⟨by omega, by omega⟩))
theorem in_apart (h b : Fin 2) : Disjoint (inHalf h).view.set (inQuarter (other h) b) :=
  Finset.disjoint_left.mpr fun (i : S512x1024.Idx) hi hi' => by
    have := (mem_inHalf _ i).mp hi
    have := mem_inQuarter _ _ i hi'
    have e := other_val h
    omega

/-! ## The buffers cut up -/

/-- A device's whole staged argument, and its whole staged result. -/
def wholeIn (c : Dev nD) (f : (cc0_stg0_0 : Ref sig .tc).ty.Contents (Elt F)) : sProp 𝕄 := ((c : Thread nD τ).loc cc0_stg0_0) ↦{fullShare} f
def wholeOut (c : Dev nD) (f : (cc0_stg1_0 : Ref sig .tc).ty.Contents (Elt F)) : sProp 𝕄 := ((c : Thread nD τ).loc cc0_stg1_0) ↦{fullShare} f
/-- The part of a device's staged argument that no move reads. -/
def idlePts (c : Dev nD) : sProp 𝕄 :=
  ((c : Thread nD τ).loc cc0_stg0_0) ↦[Finset.univ \ ((inHalf (row c)).view.set ∪ inQuarter (other (row c)) (lane c))]{fullShare} xstg m ρ c

omit [FloatOps F] in
theorem quarter_rows (c : Dev nD) (h b : Fin 2) (f : (cc0_stg1_0 : Ref sig .tc).ty.Contents (Elt F)) :
    ((((c : Thread nD τ).loc cc0_stg1_0) ↦[outQuarter h b]{fullShare} f) : sProp 𝕄) = rows fun r => tilePts c h b r f :=
  (congrArg (fun S => ((((c : Thread nD τ).loc cc0_stg1_0) ↦[S]{fullShare} f) : sProp 𝕄))
    (Finset.ext fun i => Finset.mem_biUnion.trans Finset.mem_biUnion.symm)).trans
    (pointsTo_biUnion (ℓ := (c : Thread nD τ).loc cc0_stg1_0) Finset.univ (fun r : Fin 16 => (outTile h b r).view.set) fun r _ r' _ hr => outTile_apart h b hr)
omit [FloatOps F] in
theorem quarter_src (c : Dev nD) :
    ((((c : Thread nD τ).loc cc0_stg0_0) ↦[inQuarter (other (row c)) (lane c)]{fullShare} xstg m ρ c) : sProp 𝕄) = rows fun r => srcPts m ρ c r :=
  (congrArg (fun S => ((((c : Thread nD τ).loc cc0_stg0_0) ↦[S]{fullShare} xstg m ρ c) : sProp 𝕄))
    (Finset.ext fun i => Finset.mem_biUnion.trans Finset.mem_biUnion.symm)).trans
    (pointsTo_biUnion (ℓ := (c : Thread nD τ).loc cc0_stg0_0) Finset.univ (fun r : Fin 16 => (inTile (other (row c)) (lane c) r).view.set) fun r _ r' _ hr => inTile_apart _ _ hr)

omit [FloatOps F] in
/-- The whole result is the half the device keeps and its neighbours' two quarters, chunk by chunk. -/
theorem out_blocks (c : Dev nD) (f : (cc0_stg1_0 : Ref sig .tc).ty.Contents (Elt F)) :
    (wholeOut c f : sProp 𝕄) ⊣⊢ iprop(halfPts c f ∗ (rows fun r => landX c r f) ∗ rows fun r => landY c r f) := by
  rw [show (wholeOut c f : sProp 𝕄) = (((c : Thread nD τ).loc cc0_stg1_0) ↦[(outHalf (row c)).view.set ∪ (outQuarter (other (row c)) (lane c) ∪ outQuarter (other (row c)) (other (lane c)))]{fullShare} f)
    from congrArg (fun S => ((((c : Thread nD τ).loc cc0_stg1_0) ↦[S]{fullShare} f) : sProp 𝕄)) (cover (row c) (lane c)).symm]
  have h1 := pointsTo_union (ℓ := (c : Thread nD τ).loc cc0_stg1_0) (q := fullShare) (f := f) (Ix := Unit) (Name := ℕ) (U := UU) (Lvl := ℕ) (half_apart (row c) (lane c))
  have h2 := pointsTo_union (ℓ := (c : Thread nD τ).loc cc0_stg1_0) (q := fullShare) (f := f) (Ix := Unit) (Name := ℕ) (U := UU) (Lvl := ℕ) (quarters_apart (other (row c)) (lane c))
  rw [quarter_rows, quarter_rows] at h2
  exact ⟨h1.1.trans (sep_mono_right h2.1), (sep_mono_right h2.2).trans h1.2⟩

omit [FloatOps F] in
/-- The whole argument is the half the device keeps, the chunks it sends, and the rest. -/
theorem in_blocks (c : Dev nD) :
    (wholeIn c (xstg m ρ c) : sProp 𝕄) ⊣⊢ iprop((stayPts m ρ c ∗ rows fun r => srcPts m ρ c r) ∗ idlePts m ρ c) := by
  have h1 := pointsTo_split_subset (ℓ := (c : Thread nD τ).loc cc0_stg0_0) (q := fullShare) (f := xstg m ρ c) (Ix := Unit) (Name := ℕ) (U := UU) (Lvl := ℕ)
    (Finset.subset_univ ((inHalf (row c)).view.set ∪ inQuarter (other (row c)) (lane c)))
  have h2 := pointsTo_union (ℓ := (c : Thread nD τ).loc cc0_stg0_0) (q := fullShare) (f := xstg m ρ c) (Ix := Unit) (Name := ℕ) (U := UU) (Lvl := ℕ) (in_apart (row c) (lane c))
  rw [quarter_src] at h2
  exact ⟨h1.1.trans (sep_mono_left h2.1), (sep_mono_left h2.2).trans h1.2⟩

end Cert.AllToAll
end
-- ==== Proof.Point.lean ====
/- The grid's one point on one device: what it starts from, what it leaves, and that the body takes it from one to the other. -/
module

public import proofs.«01_k».proof.Proof.Blocks

@[expose] public section

noncomputable section

namespace Cert.AllToAll

open Cert.KernelIdeal Cert.KernelIdeal.Gen
open Idealize.ShloMosaic Idealize.ShloMosaic.TcCoe
open Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- A device's places at the starts of its cells. -/
def places (c : Dev nD) : sProp 𝕄 := bigSep Finset.univ fun k : Kind => pos c k
/-- The rights to the payments a device makes: to its neighbours' barriers and receive ends, and at its own cells. -/
def payToks (c : Dev nD) : sProp 𝕄 :=
  iprop(tok (overX c) barK false ∗ tok (overY c) barK true ∗ tok c locK false
    ∗ (rows fun r => tok c (dmaK 0 r) false) ∗ (rows fun r => tok (overX c) (dmaK 1 r) false)
    ∗ (rows fun r => tok c (dmaK 2 r) false) ∗ rows fun r => tok (overY c) (dmaK 3 r) false)
/-- The credits a device holds from the start: its barrier's two units, and its receive ends' blocks. -/
def credits (c : Dev nD) : sProp 𝕄 :=
  iprop(crd c barK 2 ∗ (rows fun r => crd c (dmaK 1 r) N) ∗ rows fun r => crd c (dmaK 3 r) N)
def G' (c : Dev nD) : sProp 𝕄 := iprop(∃ K, records m ρ K ∗ places c ∗ payToks c)
def start (c : Dev nD) : sProp 𝕄 := iprop(G' m ρ c ∗ credits c ∗ levAts L lv)
/-- What it ends with besides its buffers: every semaphore at zero. -/
def done (c : Dev nD) : sProp 𝕄 := iprop(zero c barK ∗ ownZeros c)

omit [FloatOps F] in
/-- One assertion for each of a device's own cells, channel by channel. -/
theorem over_own (A : Own → sProp 𝕄) :
    bigSep Finset.univ A = iprop(A (.inl ()) ∗ (rows fun r => A (.inr (0, r))) ∗ (rows fun r => A (.inr (1, r))) ∗ (rows fun r => A (.inr (2, r))) ∗ rows fun r => A (.inr (3, r))) := by
  rw [BI.bigSep_univ_sum, bigSep_univ_prod, bigSep_univ_eq_bigSepL [()] (by decide) (by decide),
    bigSep_univ_eq_bigSepL [0, 1, 2, 3] (by decide) (by decide)]
  rfl
omit [FloatOps F] in
/-- One assertion for each of a device's cells: the barrier's and its own. -/
theorem over_kinds (A : Kind → sProp 𝕄) : bigSep Finset.univ A = iprop(A barK ∗ bigSep Finset.univ fun o : Own => A (.inr o)) := by
  rw [BI.bigSep_univ_sum, bigSep_univ_eq_bigSepL [()] (by decide) (by decide)]
  rfl

omit [FloatOps F] in
theorem givenX_intro (c : Dev nD) (f : (cc0_stg1_0 : Ref sig .tc).ty.Contents (Elt F)) : (rows fun r => landX c r f : sProp 𝕄) ⊢ givenX c :=
  bigSep_mono fun r _ => show landX c r f ⊢ iprop(∃ f, landX c r f) by iintro H; iexists f; iexact H
omit [FloatOps F] in
theorem givenY_intro (c : Dev nD) (f : (cc0_stg1_0 : Ref sig .tc).ty.Contents (Elt F)) : (rows fun r => landY c r f : sProp 𝕄) ⊢ givenY c :=
  bigSep_mono fun r _ => show landY c r f ⊢ iprop(∃ f, landY c r f) by iintro H; iexists f; iexact H

/-- What a device starts from and its buffers are what its program takes, and the part of the argument nothing reads. -/
theorem need_intro (c : Dev nD) (f : (cc0_stg1_0 : Ref sig .tc).ty.Contents (Elt F)) :
    iprop(places c ∗ payToks c ∗ credits c ∗ wholeIn c (xstg m ρ c) ∗ wholeOut c f) ⊢ iprop(need m ρ c ∗ idlePts m ρ c) := by
  unfold places payToks credits
  rw [over_kinds, over_own]
  iintro ⟨⟨Hpb, Hpl, Hp0, Hp1, Hp2, Hp3⟩, ⟨Htx, Hty, Htl, Ht0, Ht1, Ht2, Ht3⟩, ⟨Hcb, Hc1, Hc3⟩, Hin, Hout⟩
  ihave Hin := ((in_blocks m ρ c).1) $$ Hin
  icases Hin with ⟨⟨Hstay, Hsrc⟩, Hidle⟩
  ihave Hout := ((out_blocks c f).1) $$ Hout
  icases Hout with ⟨Hhalf, HX, HY⟩
  isplitr [Hidle]
  · unfold need meet sendOwn keepNeed relayOwn takeNeed drainNeed
    simp only [rows, bigSep_sep']
    isplitl [Hpb Hcb Htx Hty]
    · isplitl [Hpb]; · iexact Hpb
      isplitl [Hcb]; · iexact Hcb
      isplitl [Htx] <;> iassumption
    isplitl [HX]
    · iapply (givenX_intro c f); iexact HX
    isplitl [HY]
    · iapply (givenY_intro c f); iexact HY
    isplitl [Hsrc Ht0 Ht1]
    · isplitl [Hsrc]; · iexact Hsrc
      isplitl [Ht0] <;> iassumption
    isplitl [Hstay Hhalf Htl]
    · isplitl [Hstay]; · iexact Hstay
      isplitl [Hhalf]; · iexists f; iexact Hhalf
      iexact Htl
    isplitl [Hp1 Hc1 Ht2 Ht3]
    · isplitl [Hp1]; · iexact Hp1
      isplitl [Hc1]; · iexact Hc1
      isplitl [Ht2] <;> iassumption
    isplitl [Hp3 Hc3]
    · isplitl [Hp3] <;> iassumption
    isplitl [Hpl]; · iexact Hpl
    isplitl [Hp0] <;> iassumption
  iexact Hidle

omit [FloatOps F] in
/-- The buffers put together again. -/
theorem mem_outro (c : Dev nD) : iprop(doneMem m ρ c ∗ idlePts m ρ c) ⊢ (iprop(wholeIn c (xstg m ρ c) ∗ wholeOut c (outAt m ρ c)) : sProp 𝕄) := by
  unfold doneMem
  iintro ⟨⟨Hstay, Hsrc, Hhalf, HX, HY⟩, Hidle⟩
  isplitl [Hstay Hsrc Hidle]
  · iapply ((in_blocks m ρ c).2)
    isplitr [Hidle]
    · isplitl [Hstay] <;> iassumption
    iexact Hidle
  iapply ((out_blocks c (outAt m ρ c)).2)
  isplitl [Hhalf]; · iexact Hhalf
  isplitl [HX] <;> iassumption

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => done c
  q _ := fullShare
  owed t := match t with
    | ⟨0, _⟩ => O₀ c
    | ⟨_ + 1, _⟩ => 0

def t₀ : Fin cfg0.N := t0_0
theorem fin_N (t : Fin cfg0.N) : t = t₀ := fin_N0 t
omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

/-- A staging buffer held whole at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(done c ∗ (dats m ρ 0 c).owesAt () t₀.succ ∗ stg c cc0_stg0_0 (xstg m ρ c) ∗ stg c cc0_stg1_0 (outAt m ρ c))

/-- The body, from what the point starts with to what it leaves. -/
theorem body_runs (c : Dev nD) :
    bodyPre m ρ c ⊢ wp frame (wpE (defs₀ (F := F)) 𝒱₀ c none) Set.univ
      (cc0_body inM (Memref.isWhole_whole _) outM (Memref.isWhole_whole _) cc0_scratch0 cc0_scratch1 cc0_scratch2 cc0_scratch3 cc0_scratch4) (fun _ => bodyPost m ρ c) := by
  rw [wp_body]
  unfold bodyPre start G' stg Dat.owesAt Pipeline.owesWithin
  iintro ⟨⟨⟨%K, #HR, Hpl, Htk⟩, Hcr, #HL⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  ihave H := (need_intro m ρ c g1) $$ [Hpl Htk Hcr Hx Hout]
  · isplitl [Hpl]; · iexact Hpl
    isplitl [Htk]; · iexact Htk
    isplitl [Hcr]; · iexact Hcr
    unfold wholeIn wholeOut
    isplitl [Hx] <;> iassumption
  icases H with ⟨Hneed, Hidle⟩
  iapply (route_runs m ρ K c (fun _ => bodyPost m ρ c)) $$ [Hneed HO]
  · isplitr
    · unfold common; isplitr; · iexact HR
      iexact HL
    isplitl [Hneed]; · iexact Hneed
    unfold owesAny
    iexists W; iexact HO
  unfold owesAny
  iintro ⟨⟨%W', HO⟩, Hzb, Hz, Hmem⟩
  ihave Hmem := (mem_outro m ρ c) $$ [Hmem Hidle]
  · isplitl [Hmem] <;> iassumption
  unfold wholeIn wholeOut
  icases Hmem with ⟨Hx, Hout⟩
  unfold bodyPost done stg Dat.owesAt Pipeline.owesWithin
  isplitl [Hzb Hz]
  · isplitl [Hzb] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
/-- The library's body obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_runs m ρ c

end Cert.AllToAll
end
-- ==== Proof.Run.lean ====
/- The launch: the cells and payments dealt to the devices, the credits, and the run of the whole program. -/
module

public import proofs.«01_k».proof.Proof.Point
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec ownSem := by decide +kernel

theorem share_eq (c : Dev nD) (w : Fin cfg0.W) : (dats m ρ 0 c).share w = fullShare := by unfold Dat.share; split <;> rfl

/-! ## The cells and the payments minted -/

theorem cell_eq_iff {a c : Dev nD} {k k' : Kind} : cell a k = cell c k' ↔ a = c ∧ k = k' :=
  ⟨fun h => ⟨congrArg (fun g : GSem nD τ sig => g.1.1) h, semOf_inj (congrArg Prod.snd h)⟩, fun h => by rw [h.1, h.2]⟩
theorem cell_injective : Function.Injective fun ck : Dev nD × Kind => cell ck.1 ck.2 := fun a b h =>
  Prod.ext (cell_eq_iff.mp h).1 (cell_eq_iff.mp h).2
def theCells : Finset (GSem nD τ sig) := Finset.univ.map ⟨_, cell_injective⟩

/-- A device's payments as minted: two at its barrier, one at each cell of its own. -/
abbrev tokOf (cj : Dev nD × (Bool ⊕ Own)) : GSem nD τ sig × ℕ × Bool := match cj.2 with
  | .inl b => (cell cj.1 barK, 0, b)
  | .inr o => (cell cj.1 (.inr o), 0, false)
theorem tokOf_injective : Function.Injective tokOf := by
  rintro ⟨c, b | o⟩ ⟨c', b' | o'⟩ h
  · have h1 := cell_eq_iff.mp (congrArg Prod.fst h)
    have h2 : b = b' := congrArg (fun x : GSem nD τ sig × ℕ × Bool => x.2.2) h
    exact Prod.ext h1.1 (congrArg Sum.inl h2)
  · exact absurd (cell_eq_iff.mp (congrArg Prod.fst h)).2 (by intro h; cases h)
  · exact absurd (cell_eq_iff.mp (congrArg Prod.fst h)).2 (by intro h; cases h)
  · have h1 := cell_eq_iff.mp (congrArg Prod.fst h)
    exact Prod.ext h1.1 (congrArg Sum.inr (Sum.inr.inj h1.2))
def theToks : Finset (GSem nD τ sig × ℕ × Bool) := Finset.univ.map ⟨tokOf, tokOf_injective⟩

def u₀ : UU := (initOf (Pipeline.cells cfgs cellOf_inj) (Pipeline.launchToks cfgs cellOf_inj), initOf theCells theToks)

/-- The payments at device `c`'s own cells. -/
def toks (c : Dev nD) : sProp 𝕄 :=
  iprop((tok c barK false ∗ tok c barK true) ∗ tok c locK false
    ∗ (rows fun r => tok c (dmaK 0 r) false) ∗ (rows fun r => tok c (dmaK 1 r) false)
    ∗ (rows fun r => tok c (dmaK 2 r) false) ∗ rows fun r => tok c (dmaK 3 r) false)

/-- What the launch element deals device `c`. -/
def G (c : Dev nD) : sProp 𝕄 :=
  iprop((bigSep Finset.univ fun k : Kind => roundState ER (rd m ρ) (cell c k) 0)
    ∗ (bigSep Finset.univ fun k : Kind => iprop(pos c k ∗ reached ER (cell c k) 0)) ∗ toks c)

omit [FloatOps F] in
theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Kind => Φ (cell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    rw [BI.bigSep_univ_sum, over_own, bigSep_univ_eq_bigSepL [false, true] (by decide) (by decide)]
    rfl
  iintro HX
  imod (Rounds.fund ER (rd m ρ) theCells theToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

omit [FloatOps F] in
/-- A device's own semaphores at zero, channel by channel. -/
theorem ownSems0_eq (c : Dev nD) : (Pipeline.ownSems0 (Ix := Unit) (Name := ℕ) (U := UU) (Lvl := ℕ) (Val := Elt F) (τ := τ) ownSem c : sProp 𝕄)
    = bigSep Finset.univ fun o : Own => zero c (.inr o) := rfl
omit [FloatOps F] in
/-- The barrier semaphore is the launch's one unscoped semaphore. -/
theorem unscopedSems0_eq (c : Dev nD) : (unscopedSems0 c : sProp 𝕄) = zero c barK := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) ownSem c ∗ unscopedSems0 c)
      ⊢ (bigSep Finset.univ fun k : Kind => zero c k : sProp 𝕄) := by
  rw [ownSems0_eq, unscopedSems0_eq, over_kinds]
  iintro ⟨HS, HB⟩
  isplitl [HB] <;> iassumption

omit [FloatOps F] in
theorem core_alloc (c : Dev nD) :
    iprop(Pipeline.ownSems0 (Ix := Unit) (Name := ℕ) (U := UU) (Lvl := ℕ) (Val := Elt F) (τ := τ) ownSem c ∗ unscopedSems0 c ∗ G m ρ c)
      ⊢ |={Set.univ}=> iprop((bigSep Finset.univ fun k : Kind => iprop(∃ κ : ℕ, cellInv ER (rd m ρ) κ (cell c k)))
          ∗ (bigSep Finset.univ fun k : Kind => iprop(pos c k ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kind => zero c k) ∗ bigSep Finset.univ fun k : Kind => roundState ER (rd m ρ) (cell c k) 0)
      ⊢ (|={Set.univ}=> bigSep Finset.univ fun k : Kind => iprop(∃ κ : ℕ, cellInv ER (rd m ρ) κ (cell c k)) : sProp 𝕄) from by
        rw [← bigSep_sep']
        exact (bigSep_mono fun k _ => (Rounds.body_intro ER (rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The payments dealt to those who make them -/

def xLink : Dev nD ≃ Dev nD := ⟨overX, overX, overX_overX, overX_overX⟩
def yLink : Dev nD ≃ Dev nD := ⟨overY, overY, overY_overY, overY_overY⟩

omit [FloatOps F] in
/-- A payment at a neighbour's cell goes over the link to that neighbour; the others stay. -/
theorem toks_around : (bigSep Finset.univ fun c : Dev nD => (toks c : sProp 𝕄)) ⊢ bigSep Finset.univ fun c : Dev nD => payToks c := by
  unfold toks payToks
  simp only [bigSep_sep']
  rw [bigSep_univ_equiv xLink (fun c : Dev nD => (tok c barK false : sProp 𝕄)),
    bigSep_univ_equiv yLink (fun c : Dev nD => (tok c barK true : sProp 𝕄)),
    bigSep_univ_equiv xLink (fun c : Dev nD => (rows fun r => tok c (dmaK 1 r) false : sProp 𝕄)),
    bigSep_univ_equiv yLink (fun c : Dev nD => (rows fun r => tok c (dmaK 3 r) false : sProp 𝕄))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- A fact that can be used again, used for each. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Kind → ℕ) (c : Dev nD) : iprop(records m ρ K ∗ places c ∗ payToks c) ⊢ (G' m ρ c : sProp 𝕄) := by
  unfold G'
  iintro H
  iexists K
  iexact H

omit [FloatOps F] in
theorem regroup :
    (bigSep Finset.univ fun c : Dev nD => iprop((bigSep Finset.univ fun k : Kind => iprop(∃ κ : ℕ, cellInv ER (rd m ρ) κ (cell c k)))
          ∗ (bigSep Finset.univ fun k : Kind => iprop(pos c k ∗ reached ER (cell c k) 0)) ∗ toks c) : sProp 𝕄)
      ⊢ bigSep Finset.univ (G' m ρ) := by
  rw [bigSep_sep', bigSep_sep', ← bigSep_univ_prod (fun ck : Dev nD × Kind => iprop(∃ κ : ℕ, cellInv ER (rd m ρ) κ (cell ck.1 ck.2))),
    bigSep_congr (s := Finset.univ) (fun (c : Dev nD) _ => bigSep_sep' Finset.univ (fun k : Kind => (pos c k : sProp 𝕄)) (fun k => reached ER (cell c k) 0)),
    bigSep_sep', ← bigSep_univ_prod (fun ck : Dev nD × Kind => (reached ER (cell ck.1 ck.2) 0 : sProp 𝕄))]
  iintro ⟨HI, ⟨Hat, #HR⟩, Htok⟩
  ihave HK := (BI.bigSep_exists_pi Finset.univ (fun (ck : Dev nD × Kind) (κ : ℕ) => (cellInv ER (rd m ρ) κ (cell ck.1 ck.2) : sProp 𝕄))) $$ HI
  icases HK with ⟨%K, #HI⟩
  ihave Htk := (toks_around (F := F)) $$ Htok
  iapply (each_with (R := records m ρ K) (Φ := fun c => iprop(places c ∗ payToks c)) fun c _ => ghost_intro m ρ K c)
  isplitr
  · unfold records; isplitl; · iexact HI
    iexact HR
  · rw [bigSep_sep']
    unfold places
    isplitl [Hat]; · iexact Hat
    iexact Htk

omit [FloatOps F] in
/-- The global step: every device's semaphores at once become the cells' invariants. -/
theorem glob : (bigSep Finset.univ fun c => iprop(Pipeline.ownSems0 (Ix := Unit) (Name := ℕ) (U := UU) (Lvl := ℕ) (Val := Elt F) (τ := τ) ownSem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What all devices together owe a cell of kind `k`. -/
def total (k : Kind) : ℕ :=
  (chunks.map fun r => if dmaK 3 r = k then N else 0).sum + (chunks.map fun r => if dmaK 1 r = k then N else 0).sum
    + (if barK = k then 1 else 0) + (if barK = k then 1 else 0)

/-- Each device owing its neighbour over a link, a cell is owed by one device. -/
theorem owed_once (e : Dev nD ≃ Dev nD) (k' : Kind) (n : ℕ) (c : Dev nD) (k : Kind) :
    ∑ d : Dev nD, (tallyAt (cell (e d) k') () n : CellTallies nD τ sig Unit) (cell c k) () = if k' = k then n else 0 := by
  rw [Equiv.sum_comp e (fun d => (tallyAt (cell d k') () n : CellTallies nD τ sig Unit) (cell c k) ())]
  rw [Finset.sum_congr rfl fun d _ => show (tallyAt (cell d k') () n : CellTallies nD τ sig Unit) (cell c k) () = if d = c then (if k' = k then n else 0) else 0 by
    rw [tallyAt_apply]
    by_cases h : d = c
    · by_cases g : k' = k
      · rw [if_pos ⟨by rw [h, g], rfl⟩, if_pos h, if_pos g]
      · rw [if_neg (fun ⟨h', _⟩ => g (cell_eq_iff.mp h').2.symm), if_pos h, if_neg g]
    · rw [if_neg (fun ⟨h', _⟩ => h (cell_eq_iff.mp h').1.symm), if_neg h]]
  rw [Finset.sum_ite_eq' Finset.univ c, if_pos (Finset.mem_univ _)]

theorem owed_list (e : Dev nD ≃ Dev nD) (j : Fin 4) (c : Dev nD) (k : Kind) :
    ∀ l, ∑ d : Dev nD, owing (fun r => tallyAt (cell (e d) (dmaK j r)) () N) l (cell c k) () = (l.map fun r => if dmaK j r = k then N else 0).sum
  | [] => Finset.sum_eq_zero fun d _ => rfl
  | r :: l => by
    have h : ∀ d : Dev nD, owing (fun r => tallyAt (cell (e d) (dmaK j r)) () N) (r :: l) (cell c k) ()
        = owing (fun r => tallyAt (cell (e d) (dmaK j r)) () N) l (cell c k) () + (tallyAt (cell (e d) (dmaK j r)) () N : CellTallies nD τ sig Unit) (cell c k) () := fun d => by
      show (owing _ l + _ : CellTallies nD τ sig Unit) _ _ = _
      rw [Pi.add_apply, Finsupp.add_apply]
    rw [Finset.sum_congr rfl fun d _ => h d, Finset.sum_add_distrib, owed_list e j c k l, owed_once, List.map_cons, List.sum_cons, Nat.add_comm]

theorem owed_total (c : Dev nD) (k : Kind) : ∑ d : Dev nD, O₀ d (cell c k) () = total k := by
  have h : ∀ d : Dev nD, O₀ d (cell c k) () = owing (dueY d) chunks (cell c k) () + owing (dueX d) chunks (cell c k) ()
      + (tallyAt (cell (yLink d) barK) () 1 : CellTallies nD τ sig Unit) (cell c k) () + (tallyAt (cell (xLink d) barK) () 1 : CellTallies nD τ sig Unit) (cell c k) () := fun d => by
    unfold O₀ O₁ O₂
    rw [Pi.add_apply, Finsupp.add_apply, Pi.add_apply, Finsupp.add_apply, Pi.add_apply, Finsupp.add_apply]
    rfl
  rw [Finset.sum_congr rfl fun d _ => h d, Finset.sum_add_distrib, Finset.sum_add_distrib, Finset.sum_add_distrib, owed_once, owed_once]
  unfold total
  rw [← owed_list yLink 3 c k chunks, ← owed_list xLink 1 c k chunks]
  rfl

theorem launch_cell (c : Dev nD) (k : Kind) :
    tallyOn (cell c k) (launchCredit (Pipeline.owing O₀) 0 (cell c k)) = (tallyAt (cell c k) () (total k) : CellTallies nD τ sig Unit) := by
  unfold tallyAt; refine congrArg _ (Finsupp.ext fun u => ?_); cases u
  rw [Pipeline.launchCredit_owing, Finsupp.single_eq_same, owed_total]

theorem total_bar : total barK = 2 := by decide +kernel
theorem total_one (r : Fin 16) : total (dmaK 1 r) = N := by revert r; decide +kernel
theorem total_three (r : Fin 16) : total (dmaK 3 r) = N := by revert r; decide +kernel

omit [FloatOps F] in
theorem creds (c : Dev nD) : (Pipeline.launchCred O₀ c : sProp 𝕄) ⊢ credits c := by
  have h : (Pipeline.launchCred O₀ c : sProp 𝕄) ⊢ bigSep Finset.univ fun k : Kind => crd c k (total k) := by
    unfold Pipeline.launchCred
    refine (bigSep_subset (Finset.subset_univ (Finset.univ.map ⟨semOf, semOf_inj⟩))).trans ?_
    rw [bigSep_map]
    exact Entails.of_eq (bigSep_congr fun k _ => congrArg cred (launch_cell c k))
  refine h.trans ?_
  rw [over_kinds, over_own, total_bar, funext fun r => congrArg (crd (F := F) c (dmaK 1 r)) (total_one r), funext fun r => congrArg (crd (F := F) c (dmaK 3 r)) (total_three r)]
  unfold credits
  iintro ⟨Hb, -, -, H1, -, H3⟩
  isplitl [Hb]; · iexact Hb
  isplitl [H1] <;> iassumption

/-! ## The launch's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = done c from rfl, scopedRest0_eq, ownSems0_eq, unscopedSems0_eq, over_own]
  unfold done ownZeros
  iintro ⟨Hb, Ho⟩
  isplitl [Hb]; · iexact Hb
  isplitl [Ho]; · iexact Ho
  iempintro

theorem above_owed (c : Dev nD) (t : Fin (cfg0.N + 1)) : Above 1 ((dats m ρ 0 c).owed t) := by
  rcases t with ⟨_ | _, ht⟩
  · exact above_O₀ c
  · exact above_zero 1

theorem stage_level (w : Fin cfg0.W) (s : Fin (cfg0.win w).nbuf) (c : Dev nD) : lv ((c : Thread nD τ), .dma ((cfg0.win w).sem s)) () < 1 := by
  revert w s c; decide

theorem waits (c : Dev nD) : (levAts L lv : sProp 𝕄) ⊢ Pipeline.cellsWaits cfgs (dats m ρ) () 0 c :=
  Pipeline.cellsWaits_intro cfgs (dats m ρ) () 0 c fun w s t => mayWait_of c _ (stage_level w s c) (above_owed m ρ c t)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every fair run of the program on the four devices ends, and ends with each
    device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.AllToAll
end
-- ==== Proof.Value.lean ====
/- The result in terms of the whole arrays, the reference's run, and the claims. -/
module

public import proofs.«01_k».proof.Proof.Run
public import proofs.«01_k».proof.Defs
public import proofs.«01_k».proof.Proof.Gen.Kernel
public import proofs.«01_k».proof.Proof.Gen.ReferenceIdeal
public import Idealize.ShloMosaic.Lib.StableHlo.Run

@[expose] public section

noncomputable section

namespace Cert.AllToAll

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## What the arrays hold after a run -/

/-- The grid's one block of the argument, and of the result, is the whole array. -/
theorem read_arg (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_res (f : main_v1.ty.Contents (Elt F)) : (win0_1.blk (0 : Fin 1)).view.read (Elt F) f = f :=
  Memref.read_access_unit_zero (Elt F) main_v1 (funext fun a => by fin_cases a <;> decide) (fun a => by fin_cases a <;> decide) f

/-- A device's staged argument is its argument. -/
theorem xstg_eq (c : Dev nD) : xstg m ρ c = m ((c : Thread nD τ).loc main_arg0) := read_arg _

/-- A device's result array ends holding what the body left in the staging buffer. -/
theorem finalA_res (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (read_res _).symm.trans h

/-! ## The blocks of a whole array -/

theorem at_row (a b : Fin 2) : row (at_ a b) = a := by revert a b; decide

/-- The device an element of the result comes from holds the rows that element lies in. -/
theorem origin_row (c : Dev nD) (i : S1024x512.Idx) : (row (origin c i)).val = (i 0).val / 512 := by
  unfold origin
  by_cases h : (i 0).val / 512 = (row c).val
  · rw [if_pos h, h]
  · rw [if_neg h, at_row]

/-- A device's block numbers: its share of the argument is the rows its row of the mesh names, its share of the result the columns. -/
theorem blk_rows (c : Dev nD) : ((Layout.meshBlock [2, 2] ![[0], []] c) (0 : Fin 2)).val = (row c).val := by revert c; decide
theorem blk_rows' (c : Dev nD) : ((Layout.meshBlock [2, 2] ![[0], []] c) (1 : Fin 2)).val = 0 := by revert c; decide
theorem blk_cols (c : Dev nD) : ((Layout.meshBlock [2, 2] ![[], [0]] c) (0 : Fin 2)).val = 0 := by revert c; decide
theorem blk_cols' (c : Dev nD) : ((Layout.meshBlock [2, 2] ![[], [0]] c) (1 : Fin 2)).val = (row c).val := by revert c; decide

/-- Two elements of the whole array in the same row and column are one. -/
theorem whole_ext {i i' : (⟨2, ![1024, 1024]⟩ : Shape).Idx} (h0 : (i 0).val = (i' 0).val) (h1 : (i 1).val = (i' 1).val) : i = i' :=
  funext fun a => by fin_cases a <;> exact Fin.ext (by assumption)

/-- If every device's argument is its rows of one whole array, every device's result is its columns of it. -/
theorem out_block (w : (⟨2, ![1024, 1024]⟩ : Shape).Idx → Elt F .f32)
    (hw : ∀ c : Dev nD, m ((c : Thread nD τ).loc main_arg0) = Layout.blockN ⟨2, ![512, 1024]⟩ ⟨2, ![1024, 1024]⟩ (Layout.meshBlock [2, 2] ![[0], []] c) w) (c : Dev nD) :
    outAt m ρ c = Layout.blockN ⟨2, ![1024, 512]⟩ ⟨2, ![1024, 1024]⟩ (Layout.meshBlock [2, 2] ![[], [0]] c) w := by
  funext i
  rw [outAt_apply, xstg_eq, hw]
  refine congrArg w (whole_ext ?_ ?_)
  · show ((Layout.meshBlock [2, 2] ![[0], []] (origin c i)) (0 : Fin 2)).val * 512 + (spot c i 0).val = ((Layout.meshBlock [2, 2] ![[], [0]] c) (0 : Fin 2)).val * 1024 + (i 0).val
    rw [blk_rows, blk_cols, origin_row, spot_0]
    omega
  · show ((Layout.meshBlock [2, 2] ![[0], []] (origin c i)) (1 : Fin 2)).val * 1024 + (spot c i 1).val = ((Layout.meshBlock [2, 2] ![[], [0]] c) (1 : Fin 2)).val * 512 + (i 1).val
    rw [blk_rows', blk_cols', spot_1]
    omega

/-! ## The reference -/

/-- The reference has no operation: every run of it ends, its memory as it was. -/
theorem run_reference (m' : (ℓ : Loc Cert.ReferenceIdeal.nD Cert.ReferenceIdeal.τ Cert.ReferenceIdeal.sig) → Buf (Elt F) ℓ) (ρ' : Dev Cert.ReferenceIdeal.nD → PrngReg) :
    θ_run Cert.ReferenceIdeal.defs (onTc (τ := Cert.ReferenceIdeal.τ) (Cert.ReferenceIdeal.main (F := F))) ⟨m', fun _ => 0, ρ'⟩ fun r =>
      ∀ c : Dev Cert.ReferenceIdeal.nD, r.2.mem ((c.tc : Thread Cert.ReferenceIdeal.nD Cert.ReferenceIdeal.τ).loc Cert.ReferenceIdeal.main_arg0)
        = m' ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl) (fun _ => trivial) m' ρ')

/-! ## The claims -/

/-- The kernel's run, at what the claims name: the argument unchanged, the result, the semaphores at zero. -/
theorem run_arrays : θ_run defs (onTc (τ := τ) (main (F := F))) (s₀ m ρ) fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0 :=
  (θ_run defs _ _).mono (fun _ h => ⟨fun c => ⟨(h.1 c (1 : Fin 2)).trans (finalA_res m ρ c), (h.1 c (0 : Fin 2)).trans (finalA_arg m ρ c)⟩, h.2⟩) (run_main m ρ)

/-- The run with the values left out. -/
theorem run_frame : θ_run defs (onTc (τ := τ) (main (F := F))) (s₀ m ρ) fun r =>
    (∀ c : Dev nD, r.2.mem ((c : Thread nD τ).loc main_arg0) = m ((c : Thread nD τ).loc main_arg0)) ∧ r.2.sem = fun _ => 0 :=
  (θ_run defs _ _).mono (fun _ h => ⟨fun c => (h.1 c).2, h.2⟩) (run_arrays m ρ)

/-- The frame of the kernel over the extended reals. -/
theorem frame_ideal : Cert.quiescent_KernelIdeal := fun m ρ _ => run_frame (F := Ideal) m ρ

set_option smartUnfolding false in
/-- The frame of the kernel: the two programs have one text, so the run at any float values is the kernel's at its own. -/
theorem frame_kernel : Cert.quiescent_Kernel := fun m ρ _ => run_frame (F := Bits) m ρ

/-- The reference's frame. -/
theorem frame_reference : Cert.quiescent_ReferenceIdeal := fun m ρ _ =>
  (θ_run Cert.ReferenceIdeal.defs _ _).mono (fun r h => ⟨h, sem_eq_zero_of_no_sems (by decide) r.2⟩) (run_reference (F := Ideal) m ρ)

/-- The redistributed array is the array: rows in, columns out. -/
theorem algebraic : Cert.algebraic_KernelIdeal_ReferenceIdeal := fun m ρ m' ρ' _ hw =>
  ⟨m' (((0 : Dev Cert.ReferenceIdeal.nD).tc : Thread Cert.ReferenceIdeal.nD Cert.ReferenceIdeal.τ).loc Cert.ReferenceIdeal.main_arg0),
    (θ_run defs _ _).mono (fun _ h c => ⟨(h.1 c).1.trans (out_block m ρ _ hw c), (h.1 c).2⟩) (run_arrays (F := Ideal) m ρ),
    (θ_run Cert.ReferenceIdeal.defs _ _).mono (fun _ h => ⟨h 0, h 0⟩) (run_reference (F := Ideal) m' ρ')⟩

end Cert.AllToAll
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The five claims of the certificate. -/
theorem claim : Cert.Claim := ⟨Cert.Kernel.Gen.facts, Cert.KernelIdeal.Gen.facts, Cert.ReferenceIdeal.Gen.facts,
  Cert.AllToAll.frame_kernel, Cert.AllToAll.frame_ideal, Cert.AllToAll.frame_reference, trivial, Cert.AllToAll.algebraic⟩

end Cert.Proof

end
